-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_boxes [hPre_unit_boxes : Cert.Pre_unit_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_unit_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_boxes [hPre_unit_boxes : Cert.Pre_unit_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unit_boxes [hKernelIdeal : Cert.KernelIdeal.Facts] [hPre_unit_boxes : Cert.Pre_unit_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unit_boxes [hReferenceIdeal : Cert.ReferenceIdeal.Facts] [hPre_unit_boxes : Cert.Pre_unit_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_unit_boxes [hKernelIdeal : Cert.KernelIdeal.Facts] [hReferenceIdeal : Cert.ReferenceIdeal.Facts] [hPre_unit_boxes : Cert.Pre_unit_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_unit_boxes : Cert.Pre_unit_boxes.Facts),
    quiescent_Kernel (hKernel := hKernel)
    ∧ quiescent_KernelIdeal (hKernelIdeal := hKernelIdeal)
    ∧ quiescent_KernelIdeal_pre_unit_boxes (hKernelIdeal := hKernelIdeal) (hPre_unit_boxes := hPre_unit_boxes)
    ∧ quiescent_ReferenceIdeal (hReferenceIdeal := hReferenceIdeal)
    ∧ quiescent_ReferenceIdeal_pre_unit_boxes (hReferenceIdeal := hReferenceIdeal) (hPre_unit_boxes := hPre_unit_boxes)
    ∧ preserves_Kernel_KernelIdeal
    ∧ algebraic_KernelIdeal_ReferenceIdeal_pre_unit_boxes (hKernelIdeal := hKernelIdeal) (hReferenceIdeal := hReferenceIdeal) (hPre_unit_boxes := hPre_unit_boxes)
-- ==== Pre_unit_boxes.lean ====
abbrev S8x20000x4 : Shape := ⟨3, ![8, 20000, 4]⟩
abbrev S8x64x4 : Shape := ⟨3, ![8, 64, 4]⟩
abbrev S_ : Shape := ⟨0, ![]⟩

class Facts : Prop where
  bcast_S_S8x20000x4 : S_.BroadcastsInDim S8x20000x4 (![] : Fin 0 → Fin S8x20000x4.rank)
  reducesTo_S8x20000x4_S_d0_1_2 : S8x20000x4.ReducesTo [0, 1, 2] S_
  h_S_ : 0 < S_.numel
  bcast_S_S8x64x4 : S_.BroadcastsInDim S8x64x4 (![] : Fin 0 → Fin S8x64x4.rank)
  reducesTo_S8x64x4_S_d0_1_2 : S8x64x4.ReducesTo [0, 1, 2] S_

variable [Facts]

def fn {F : FTy → Type} [FloatOps F] (main_arg0 : FVec F S8x20000x4 .f32) (main_arg1 : FVec F S8x64x4 .f32) : IVec S_ 1 :=
  let main_cst : FVec F S_ .f32 := constant S_ .f32 0x00000000#32
  let main_v0 : FVec F S8x20000x4 .f32 := broadcastInDim S8x20000x4 ![] bcast_S_S8x20000x4 main_cst
  let main_v1 : IVec S8x20000x4 1 := cmpf .oge main_arg0 main_v0
  let main_c : IVec S_ 1 := constantI S_ 1 1#1
  let main_v2 : IVec S_ 1 := (fun x v => Host.reduce IntOp.andi x v reducesTo_S8x20000x4_S_d0_1_2 h_S_) main_v1 main_c
  let main_cst_0 : FVec F S_ .f32 := constant S_ .f32 0x3F800000#32
  let main_v3 : FVec F S8x20000x4 .f32 := broadcastInDim S8x20000x4 ![] bcast_S_S8x20000x4 main_cst_0
  let main_v4 : IVec S8x20000x4 1 := cmpf .ole main_arg0 main_v3
  let main_c_1 : IVec S_ 1 := constantI S_ 1 1#1
  let main_v5 : IVec S_ 1 := (fun x v => Host.reduce IntOp.andi x v reducesTo_S8x20000x4_S_d0_1_2 h_S_) main_v4 main_c_1
  let main_v6 : IVec S_ 1 := andi main_v2 main_v5
  let main_cst_2 : FVec F S_ .f32 := constant S_ .f32 0x00000000#32
  let main_v7 : FVec F S8x64x4 .f32 := broadcastInDim S8x64x4 ![] bcast_S_S8x64x4 main_cst_2
  let main_v8 : IVec S8x64x4 1 := cmpf .oge main_arg1 main_v7
  let main_c_3 : IVec S_ 1 := constantI S_ 1 1#1
  let main_v9 : IVec S_ 1 := (fun x v => Host.reduce IntOp.andi x v reducesTo_S8x64x4_S_d0_1_2 h_S_) main_v8 main_c_3
  let main_v10 : IVec S_ 1 := andi main_v6 main_v9
  let main_cst_4 : FVec F S_ .f32 := constant S_ .f32 0x3F800000#32
  let main_v11 : FVec F S8x64x4 .f32 := broadcastInDim S8x64x4 ![] bcast_S_S8x64x4 main_cst_4
  let main_v12 : IVec S8x64x4 1 := cmpf .ole main_arg1 main_v11
  let main_c_5 : IVec S_ 1 := constantI S_ 1 1#1
  let main_v13 : IVec S_ 1 := (fun x v => Host.reduce IntOp.andi x v reducesTo_S8x64x4_S_d0_1_2 h_S_) main_v12 main_c_5
  let main_v14 : IVec S_ 1 := andi main_v10 main_v13
  main_v14
-- ==== Kernel.lean ====
abbrev S8x20000x4 : Shape := ⟨3, ![8, 20000, 4]⟩
abbrev S8x64x4 : Shape := ⟨3, ![8, 64, 4]⟩
abbrev S_ : Shape := ⟨0, ![]⟩
abbrev S8x20096x4 : Shape := ⟨3, ![8, 20096, 4]⟩
abbrev S8x4x20096 : Shape := ⟨3, ![8, 4, 20096]⟩
abbrev S8x64x9 : Shape := ⟨3, ![8, 64, 9]⟩
abbrev S1x4x20096 : Shape := ⟨3, ![1, 4, 20096]⟩
abbrev S1x64x4 : Shape := ⟨3, ![1, 64, 4]⟩
abbrev S1x64x9 : Shape := ⟨3, ![1, 64, 9]⟩
abbrev S4x20096 : Shape := ⟨2, ![4, 20096]⟩
abbrev S64x4 : Shape := ⟨2, ![64, 4]⟩
abbrev S1x20096 : Shape := ⟨2, ![1, 20096]⟩
abbrev S64x1 : Shape := ⟨2, ![64, 1]⟩
abbrev S64x20096 : Shape := ⟨2, ![64, 20096]⟩
abbrev S64x157x128 : Shape := ⟨3, ![64, 157, 128]⟩
abbrev S64x157 : Shape := ⟨2, ![64, 157]⟩
abbrev S64 : Shape := ⟨1, ![64]⟩
abbrev S64x1x1 : Shape := ⟨3, ![64, 1, 1]⟩
abbrev S64x128 : Shape := ⟨2, ![64, 128]⟩
abbrev S64x1x128 : Shape := ⟨3, ![64, 1, 128]⟩
abbrev S64x1024 : Shape := ⟨2, ![64, 1024]⟩
abbrev S1x64 : Shape := ⟨2, ![1, 64]⟩
abbrev S1 : Shape := ⟨1, ![1]⟩
abbrev S1x1 : Shape := ⟨2, ![1, 1]⟩
abbrev S64x64 : Shape := ⟨2, ![64, 64]⟩
abbrev S64x9 : Shape := ⟨2, ![64, 9]⟩
abbrev S8x576 : Shape := ⟨2, ![8, 576]⟩
abbrev S1x64x1 : Shape := ⟨3, ![1, 64, 1]⟩

abbrev nBuf : Space → Nat
  | .hbm => 12
  | .vmem => 6
  | .smem => 0
  | _ => 0

abbrev bufTy : (tb : Table) → Fin (tcTables nBuf tb) → BufTy
  | .hbm, ⟨0, _⟩ => ⟨S8x20000x4, .f32⟩
  | .hbm, ⟨1, _⟩ => ⟨S8x64x4, .f32⟩
  | .hbm, ⟨2, _⟩ => ⟨S_, .f32⟩
  | .hbm, ⟨3, _⟩ => ⟨S_, .f32⟩
  | .hbm, ⟨4, _⟩ => ⟨S8x20096x4, .f32⟩
  | .hbm, ⟨5, _⟩ => ⟨S8x4x20096, .f32⟩
  | .hbm, ⟨6, _⟩ => ⟨S8x64x9, .i32⟩
  | .hbm, ⟨7, _⟩ => ⟨S8x576, .i32⟩
  | .hbm, ⟨8, _⟩ => ⟨S64, .i32⟩
  | .hbm, ⟨9, _⟩ => ⟨S1x64x1, .i32⟩
  | .hbm, ⟨10, _⟩ => ⟨S8x64x9, .i32⟩
  | .hbm, ⟨11, _⟩ => ⟨S8x576, .i32⟩
  | .local _ .vmem, ⟨0, _⟩ => ⟨S1x4x20096, .f32⟩
  | .local _ .vmem, ⟨1, _⟩ => ⟨S1x4x20096, .f32⟩
  | .local _ .vmem, ⟨2, _⟩ => ⟨S1x64x4, .f32⟩
  | .local _ .vmem, ⟨3, _⟩ => ⟨S1x64x4, .f32⟩
  | .local _ .vmem, ⟨4, _⟩ => ⟨S1x64x9, .i32⟩
  | .local _ .vmem, ⟨5, _⟩ => ⟨S1x64x9, .i32⟩
  | _, _ => ⟨S8x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c64_i32 : BitVec 32 := 64#32
  let v112 : BitVec 32 := Scalar.addi c0_i32 c64_i32
  let c1_i32 : BitVec 32 := 1#32
  ⟨c0_i32, v112, c1_i32⟩
@[reducible] def k0_t2_loop : Scf.Loop 32 :=
  let c0_i32_93 : BitVec 32 := 0#32
  let c64_i32_94 : BitVec 32 := 64#32
  let v297 : BitVec 32 := Scalar.addi c0_i32_93 c64_i32_94
  let c1_i32_95 : BitVec 32 := 1#32
  ⟨c0_i32_93, v297, c1_i32_95⟩
@[reducible] def k0_t3_loop : Scf.Loop 32 :=
  let c0_i32_93 : BitVec 32 := 0#32
  let c64_i32_94 : BitVec 32 := 64#32
  let v297 : BitVec 32 := Scalar.addi c0_i32_93 c64_i32_94
  let c1_i32_95 : BitVec 32 := 1#32
  ⟨c0_i32_93, v297, c1_i32_95⟩
@[reducible] def k0_t4_loop : Scf.Loop 32 :=
  let c0_i32_84 : BitVec 32 := 0#32
  let c9_i32 : BitVec 32 := 9#32
  let v290 : BitVec 32 := Scalar.addi c0_i32_84 c9_i32
  let c1_i32_85 : BitVec 32 := 1#32
  ⟨c0_i32_84, v290, c1_i32_85⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x20096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x9 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x20000x4 : Shape := ⟨3, ![8, 20000, 4]⟩
abbrev S8x64x4 : Shape := ⟨3, ![8, 64, 4]⟩
abbrev S8x64x1x4 : Shape := ⟨4, ![8, 64, 1, 4]⟩
abbrev S8x1x20000x4 : Shape := ⟨4, ![8, 1, 20000, 4]⟩
abbrev S8x64x20000x4 : Shape := ⟨4, ![8, 64, 20000, 4]⟩
abbrev S_ : Shape := ⟨0, ![]⟩
abbrev S8x64x20000 : Shape := ⟨3, ![8, 64, 20000]⟩
abbrev S8x64x64 : Shape := ⟨3, ![8, 64, 64]⟩
abbrev S8x64x64x1 : Shape := ⟨4, ![8, 64, 64, 1]⟩
abbrev S1 : Shape := ⟨1, ![1]⟩
abbrev S1x1x1x1 : Shape := ⟨4, ![1, 1, 1, 1]⟩
abbrev S8x64x64x4 : Shape := ⟨4, ![8, 64, 64, 4]⟩
abbrev S8x64x1 : Shape := ⟨3, ![8, 64, 1]⟩
abbrev S8x64 : Shape := ⟨2, ![8, 64]⟩
abbrev S8x64x1x2 : Shape := ⟨4, ![8, 64, 1, 2]⟩
abbrev S8x64x64x2 : Shape := ⟨4, ![8, 64, 64, 2]⟩
abbrev S8x64x1x1 : Shape := ⟨4, ![8, 64, 1, 1]⟩
abbrev S8x64x9 : Shape := ⟨3, ![8, 64, 9]⟩
abbrev S8x64x9x1 : Shape := ⟨4, ![8, 64, 9, 1]⟩
abbrev S64 : Shape := ⟨1, ![64]⟩
abbrev S1x64x1 : Shape := ⟨3, ![1, 64, 1]⟩
abbrev S8x576 : Shape := ⟨2, ![8, 576]⟩

abbrev nBuf : Space → Nat
  | .hbm => 188
  | .vmem => 0
  | .smem => 0
  | _ => 0

abbrev hbmTy0_0 (i : Nat) : BufTy := match i % 128 with
  | 0 => ⟨S8x20000x4, .f32⟩
  | 1 => ⟨S8x64x4, .f32⟩
  | 2 => ⟨S8x64x1x4, .f32⟩
  | 3 => ⟨S8x1x20000x4, .f32⟩
  | 4 => ⟨S8x64x20000x4, .f32⟩
  | 5 => ⟨S8x64x20000x4, .f32⟩
  | 6 => ⟨S8x64x20000x4, .f32⟩
  | 7 => ⟨S8x64x20000x4, .f32⟩
  | 8 => ⟨S_, .f32⟩
  | 9 => ⟨S8x64x20000, .f32⟩
  | 10 => ⟨S_, .f32⟩
  | 11 => ⟨S8x64x20000, .f32⟩
  | 12 => ⟨S8x64x20000, .f32⟩
  | 13 => ⟨S8x64x20000, .f32⟩
  | 14 => ⟨S8x64x20000, .f32⟩
  | 15 => ⟨S8x64x64, .f32⟩
  | 16 => ⟨S8x64x64, .i32⟩
  | 17 => ⟨S8x1x20000x4, .f32⟩
  | 18 => ⟨S8x64x64x1, .i32⟩
  | 19 => ⟨S_, .i32⟩
  | 20 => ⟨S8x64x64x1, .i32⟩
  | 21 => ⟨S8x64x64x1, .i1⟩
  | 22 => ⟨S_, .i32⟩
  | 23 => ⟨S8x64x64x1, .i32⟩
  | 24 => ⟨S8x64x64x1, .i32⟩
  | 25 => ⟨S8x64x64x1, .i32⟩
  | 26 => ⟨S8x20000x4, .f32⟩
  | 27 => ⟨S1, .i32⟩
  | 28 => ⟨S_, .i32⟩
  | 29 => ⟨S8x64x64x1, .i32⟩
  | 30 => ⟨S8x64x64x1, .i1⟩
  | 31 => ⟨S1x1x1x1, .i32⟩
  | 32 => ⟨S8x64x64x1, .i32⟩
  | 33 => ⟨S8x64x64x1, .i1⟩
  | 34 => ⟨S8x64x64x1, .i1⟩
  | 35 => ⟨S_, .i1⟩
  | 36 => ⟨S8x64x64, .i1⟩
  | 37 => ⟨S8x64x64x4, .f32⟩
  | 38 => ⟨S8x64x64x4, .i1⟩
  | 39 => ⟨S_, .f32⟩
  | 40 => ⟨S8x64x64x4, .f32⟩
  | 41 => ⟨S8x64x64x4, .f32⟩
  | 42 => ⟨S8x64x1, .f32⟩
  | 43 => ⟨S8x64, .f32⟩
  | 44 => ⟨S8x64x1, .f32⟩
  | 45 => ⟨S8x64, .f32⟩
  | 46 => ⟨S8x64x1, .f32⟩
  | 47 => ⟨S8x64, .f32⟩
  | 48 => ⟨S8x64x1, .f32⟩
  | 49 => ⟨S8x64, .f32⟩
  | 50 => ⟨S_, .f32⟩
  | 51 => ⟨S8x64, .f32⟩
  | 52 => ⟨S8x64, .f32⟩
  | 53 => ⟨S8x64, .f32⟩
  | 54 => ⟨S_, .f32⟩
  | 55 => ⟨S8x64, .f32⟩
  | 56 => ⟨S8x64, .f32⟩
  | 57 => ⟨S8x64, .f32⟩
  | 58 => ⟨S_, .f32⟩
  | 59 => ⟨S8x64, .f32⟩
  | 60 => ⟨S8x64, .f32⟩
  | 61 => ⟨S8x64, .f32⟩
  | 62 => ⟨S_, .f32⟩
  | 63 => ⟨S8x64, .f32⟩
  | 64 => ⟨S8x64, .f32⟩
  | 65 => ⟨S8x64, .f32⟩
  | 66 => ⟨S8x64x1, .f32⟩
  | 67 => ⟨S8x64x1, .f32⟩
  | 68 => ⟨S8x64x1, .f32⟩
  | 69 => ⟨S8x64x1, .f32⟩
  | 70 => ⟨S8x64x4, .f32⟩
  | 71 => ⟨S8x64x1x4, .f32⟩
  | 72 => ⟨S8x64x64x1, .f32⟩
  | 73 => ⟨S8x64x64, .f32⟩
  | 74 => ⟨S8x64x64x1, .f32⟩
  | 75 => ⟨S8x64x64, .f32⟩
  | 76 => ⟨S8x64x64x1, .f32⟩
  | 77 => ⟨S8x64x64, .f32⟩
  | 78 => ⟨S8x64x64x1, .f32⟩
  | 79 => ⟨S8x64x64, .f32⟩
  | 80 => ⟨S_, .f32⟩
  | 81 => ⟨S8x64x64, .f32⟩
  | 82 => ⟨S8x64x64, .f32⟩
  | 83 => ⟨S8x64x64, .f32⟩
  | 84 => ⟨S_, .f32⟩
  | 85 => ⟨S8x64x64, .f32⟩
  | 86 => ⟨S8x64x64, .f32⟩
  | 87 => ⟨S8x64x64, .f32⟩
  | 88 => ⟨S_, .f32⟩
  | 89 => ⟨S8x64x64, .f32⟩
  | 90 => ⟨S8x64x64, .f32⟩
  | 91 => ⟨S8x64x64, .f32⟩
  | 92 => ⟨S_, .f32⟩
  | 93 => ⟨S8x64x64, .f32⟩
  | 94 => ⟨S8x64x64, .f32⟩
  | 95 => ⟨S8x64x64, .f32⟩
  | 96 => ⟨S8x64x64x1, .f32⟩
  | 97 => ⟨S8x64x64x1, .f32⟩
  | 98 => ⟨S8x64x64x1, .f32⟩
  | 99 => ⟨S8x64x64x1, .f32⟩
  | 100 => ⟨S8x64x64x4, .f32⟩
  | 101 => ⟨S8x64x1x2, .f32⟩
  | 102 => ⟨S8x64x64x2, .f32⟩
  | 103 => ⟨S8x64x64x2, .f32⟩
  | 104 => ⟨S8x64x64x2, .f32⟩
  | 105 => ⟨S8x64x1x2, .f32⟩
  | 106 => ⟨S8x64x64x2, .f32⟩
  | 107 => ⟨S8x64x64x2, .f32⟩
  | 108 => ⟨S8x64x64x2, .f32⟩
  | 109 => ⟨S8x64x64x2, .f32⟩
  | 110 => ⟨S_, .f32⟩
  | 111 => ⟨S_, .f32⟩
  | 112 => ⟨S8x64x64x2, .f32⟩
  | 113 => ⟨S8x64x64x2, .f32⟩
  | 114 => ⟨S8x64x64x1, .f32⟩
  | 115 => ⟨S8x64x64, .f32⟩
  | 116 => ⟨S8x64x64x1, .f32⟩
  | 117 => ⟨S8x64x64, .f32⟩
  | 118 => ⟨S8x64x64, .f32⟩
  | 119 => ⟨S8x64x1x1, .f32⟩
  | 120 => ⟨S8x64x1, .f32⟩
  | 121 => ⟨S8x64x1x1, .f32⟩
  | 122 => ⟨S8x64x1, .f32⟩
  | 123 => ⟨S8x64x1, .f32⟩
  | 124 => ⟨S8x64x1x1, .f32⟩
  | 125 => ⟨S8x64x1, .f32⟩
  | 126 => ⟨S8x64x1x1, .f32⟩
  | 127 => ⟨S8x64x1, .f32⟩
  | _ => ⟨S8x20000x4, .f32⟩

abbrev hbmTy0_1 (i : Nat) : BufTy := match i % 128 with
  | 0 => ⟨S8x64x1, .f32⟩
  | 1 => ⟨S8x64x1, .f32⟩
  | 2 => ⟨S8x64x64x1, .f32⟩
  | 3 => ⟨S8x64x64, .f32⟩
  | 4 => ⟨S8x64x64x1, .f32⟩
  | 5 => ⟨S8x64x64, .f32⟩
  | 6 => ⟨S8x64x64, .f32⟩
  | 7 => ⟨S8x64x64x1, .f32⟩
  | 8 => ⟨S8x64x64, .f32⟩
  | 9 => ⟨S8x64x64x1, .f32⟩
  | 10 => ⟨S8x64x64, .f32⟩
  | 11 => ⟨S8x64x64, .f32⟩
  | 12 => ⟨S8x64x64, .f32⟩
  | 13 => ⟨S8x64x64, .f32⟩
  | 14 => ⟨S8x64x64, .f32⟩
  | 15 => ⟨S8x64x64, .f32⟩
  | 16 => ⟨S_, .f32⟩
  | 17 => ⟨S8x64x64, .f32⟩
  | 18 => ⟨S8x64x64, .i1⟩
  | 19 => ⟨S_, .f32⟩
  | 20 => ⟨S8x64x64, .f32⟩
  | 21 => ⟨S8x64x64, .i1⟩
  | 22 => ⟨S_, .f32⟩
  | 23 => ⟨S_, .f32⟩
  | 24 => ⟨S8x64x64, .f32⟩
  | 25 => ⟨S8x64x64, .f32⟩
  | 26 => ⟨S8x64x64, .f32⟩
  | 27 => ⟨S_, .f32⟩
  | 28 => ⟨S_, .f32⟩
  | 29 => ⟨S8x64x64, .f32⟩
  | 30 => ⟨S8x64x64, .f32⟩
  | 31 => ⟨S8x64x9, .f32⟩
  | 32 => ⟨S8x64x9, .i32⟩
  | 33 => ⟨S_, .i32⟩
  | 34 => ⟨S8x64x9, .i32⟩
  | 35 => ⟨S8x64x9, .i1⟩
  | 36 => ⟨S_, .i32⟩
  | 37 => ⟨S8x64x9, .i32⟩
  | 38 => ⟨S8x64x9, .i32⟩
  | 39 => ⟨S8x64x9, .i32⟩
  | 40 => ⟨S8x64x9x1, .i32⟩
  | 41 => ⟨S1, .i32⟩
  | 42 => ⟨S_, .i32⟩
  | 43 => ⟨S8x64x9x1, .i32⟩
  | 44 => ⟨S8x64x9x1, .i1⟩
  | 45 => ⟨S1x1x1x1, .i32⟩
  | 46 => ⟨S8x64x9x1, .i32⟩
  | 47 => ⟨S8x64x9x1, .i1⟩
  | 48 => ⟨S8x64x9x1, .i1⟩
  | 49 => ⟨S_, .i1⟩
  | 50 => ⟨S8x64x9, .i1⟩
  | 51 => ⟨S8x64x9, .i32⟩
  | 52 => ⟨S_, .i32⟩
  | 53 => ⟨S8x64x9, .i32⟩
  | 54 => ⟨S8x64x9, .i32⟩
  | 55 => ⟨S64, .i32⟩
  | 56 => ⟨S1x64x1, .i32⟩
  | 57 => ⟨S8x64x9, .i32⟩
  | 58 => ⟨S8x576, .i32⟩
  | 59 => ⟨S8x576, .i32⟩
  | _ => ⟨S8x20000x4, .f32⟩

abbrev hbmTy (i : Nat) : BufTy := match i / 128 with
  | 0 => hbmTy0_0 i
  | 1 => hbmTy0_1 i
  | _ => ⟨S8x20000x4, .f32⟩

abbrev bufTy : (tb : Table) → Fin (tcTables nBuf tb) → BufTy
  | .hbm, ⟨i, _⟩ => hbmTy i
  | _, _ => ⟨S8x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_values : Ref sig .tc := ⟨.hbm, 15, rfl⟩
abbrev main_indices : Ref sig .tc := ⟨.hbm, 16, rfl⟩
abbrev main_v11 : Ref sig .tc := ⟨.hbm, 17, rfl⟩
abbrev main_v12 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_1 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_2 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_3 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_4 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_5 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_6 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_7 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_8 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_9 : Ref sig .tc := ⟨.hbm, 110, rfl⟩
abbrev main_call1_v0 : Ref sig .tc := ⟨.hbm, 111, rfl⟩
abbrev main_call1_v1 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_10 : Ref sig .tc := ⟨.hbm, 144, rfl⟩
abbrev main_v105 : Ref sig .tc := ⟨.hbm, 145, rfl⟩
abbrev main_v106 : Ref sig .tc := ⟨.hbm, 146, rfl⟩
abbrev main_cst_11 : Ref sig .tc := ⟨.hbm, 147, rfl⟩
abbrev main_v107 : Ref sig .tc := ⟨.hbm, 148, rfl⟩
abbrev main_v108 : Ref sig .tc := ⟨.hbm, 149, rfl⟩
abbrev main_cst_12 : Ref sig .tc := ⟨.hbm, 150, rfl⟩
abbrev main_call2_v0 : Ref sig .tc := ⟨.hbm, 151, rfl⟩
abbrev main_call2_v1 : Ref sig .tc := ⟨.hbm, 152, rfl⟩
abbrev main_v109 : Ref sig .tc := ⟨.hbm, 153, rfl⟩
abbrev main_v110 : Ref sig .tc := ⟨.hbm, 154, rfl⟩
abbrev main_cst_13 : Ref sig .tc := ⟨.hbm, 155, rfl⟩
abbrev main_call3_v0 : Ref sig .tc := ⟨.hbm, 156, rfl⟩
abbrev main_call3_v1 : Ref sig .tc := ⟨.hbm, 157, rfl⟩
abbrev main_v111 : Ref sig .tc := ⟨.hbm, 158, rfl⟩
abbrev main_values_14 : Ref sig .tc := ⟨.hbm, 159, rfl⟩
abbrev main_indices_15 : Ref sig .tc := ⟨.hbm, 160, rfl⟩
abbrev main_call4_c : Ref sig .tc := ⟨.hbm, 161, rfl⟩
abbrev main_call4_v0 : Ref sig .tc := ⟨.hbm, 162, rfl⟩
abbrev main_call4_v1 : Ref sig .tc := ⟨.hbm, 163, rfl⟩
abbrev main_call4_c_0 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_call4_v5 : Ref sig .tc := ⟨.hbm, 168, rfl⟩
abbrev main_call4_c_1 : Ref sig .tc := ⟨.hbm, 169, rfl⟩
abbrev main_call4_c_2 : Ref sig .tc := ⟨.hbm, 170, rfl⟩
abbrev main_call4_v6 : Ref sig .tc := ⟨.hbm, 171, rfl⟩
abbrev main_call4_v7 : Ref sig .tc := ⟨.hbm, 172, rfl⟩
abbrev main_call4_v8 : Ref sig .tc := ⟨.hbm, 173, rfl⟩
abbrev main_call4_v9 : Ref sig .tc := ⟨.hbm, 174, rfl⟩
abbrev main_call4_v10 : Ref sig .tc := ⟨.hbm, 175, rfl⟩
abbrev main_call4_v11 : Ref sig .tc := ⟨.hbm, 176, rfl⟩
abbrev main_call4_c_3 : Ref sig .tc := ⟨.hbm, 177, rfl⟩
abbrev main_call4_v12 : Ref sig .tc := ⟨.hbm, 178, rfl⟩
abbrev main_call4_v13 : Ref sig .tc := ⟨.hbm, 179, rfl⟩
abbrev main_call4_c_4 : Ref sig .tc := ⟨.hbm, 180, rfl⟩
abbrev main_call4_v14 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩

abbrev nD : Nat := 1
abbrev τ : Topo := Topo.v7x

variable {F : FTy → Type} [FloatOps F]
-- ==== Proof.Run.lean ====
/-
  The kernel's run, over any float values: what one grid step leaves in the result's block as a function of its two
  input blocks (`bodyOut`), the step's triple, and the run of the whole program.
-/
module

public import proofs.«01_k».proof.Proof.Gen.KernelIdeal.Frame
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.FrameSuffix
public import Idealize.ShloMosaic.Lib.Pipeline.Value
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-! ## What one grid step computes -/

/-- The intersection area of every pair of boxes, off the two blocks. -/
def inter (v0 : Vec F S1x4x20096 .f32) (v2 : Vec F S1x64x4 .f32) : FVec F S64x20096 .f32 :=
  k0_pay43 (k0_pay25 v0) (k0_pay26 v0) (k0_pay27 v0) (k0_pay28 v0) (k0_pay29 v2) (k0_pay30 v2) (k0_pay31 v2) (k0_pay32 v2) (k0_pay34 v0) k0_pay35
/-- The union area of every pair of boxes. -/
def union (v0 : Vec F S1x4x20096 .f32) (v2 : Vec F S1x64x4 .f32) : FVec F S64x20096 .f32 :=
  k0_pay44 (k0_pay25 v0) (k0_pay26 v0) (k0_pay27 v0) (k0_pay28 v0) (k0_pay29 v2) (k0_pay30 v2) (k0_pay31 v2) (k0_pay32 v2) (k0_pay34 v0) k0_pay35
/-- Where the union area is positive. -/
def unionPos (v0 : Vec F S1x4x20096 .f32) (v2 : Vec F S1x64x4 .f32) : IVec S64x20096 1 :=
  k0_pay45 (k0_pay25 v0) (k0_pay26 v0) (k0_pay27 v0) (k0_pay28 v0) (k0_pay29 v2) (k0_pay30 v2) (k0_pay31 v2) (k0_pay32 v2) (k0_pay34 v0) k0_pay35

/-- The threshold: the 64th distinct chunk minimum of every row of distances. -/
def tauOf (d : FVec F S64x20096 .f32) : FVec F S64x1 .f32 :=
  (Scf.fold (fun (_ : Fin k0_t1_loop.trips) (a : FVec F S64x157 .f32 × FVec F S64x1 .f32) => (k0_pay52 a.1, k0_pay51 a.1)) (k0_pay49 d, k0_pay50)).2

/-- The chunk number of every element of the chunked array. -/
abbrev ioC : IVec S64x157x128 32 := iota .tc S64x157x128 32 [1] iota_S64x157x128_d1_w32
/-- The lane number of every element of one level. -/
abbrev ioL : IVec S64x128 32 := iota .tc S64x128 32 [1] iota_S64x128_d1_w32

/-- The working distances after levels 1, 3, 5 and 7 … as the levels name them. -/
abbrev wk1 (d : FVec F S64x20096 .f32) (tau : FVec F S64x1 .f32) : FVec F S64x157x128 .f32 := k0_pay59 d tau
/-- Where the second level's least values are held. -/
abbrev hit2 (d : FVec F S64x20096 .f32) (tau : FVec F S64x1 .f32) : IVec S64x157x128 1 := k0_pay62 d tau
/-- The values after three levels. -/
abbrev wk3 (d : FVec F S64x20096 .f32) (tau : FVec F S64x1 .f32) : FVec F S64x157x128 .f32 := k0_pay72 ioC (wk1 d tau) (hit2 d tau)
/-- The fourth level's chunk numbers. -/
abbrev cst4 (d : FVec F S64x20096 .f32) (tau : FVec F S64x1 .f32) : IVec S64x128 32 := k0_pay75 ioC (wk1 d tau) (hit2 d tau)
/-- Where the fourth level takes. -/
abbrev hit4 (d : FVec F S64x20096 .f32) (tau : FVec F S64x1 .f32) : IVec S64x157x128 1 := k0_pay76 ioC (wk1 d tau) (hit2 d tau)
/-- The values after six levels. -/
abbrev wk6 (d : FVec F S64x20096 .f32) (tau : FVec F S64x1 .f32) : FVec F S64x157x128 .f32 := k0_pay91 ioC (wk3 d tau) (hit4 d tau)

/-- The candidates' distances: eight levels of 128 lanes. -/
def candVal (d : FVec F S64x20096 .f32) (tau : FVec F S64x1 .f32) : FVec F S64x1024 .f32 :=
  k0_pay99 ioC (k0_pay55 d tau) (k0_pay61 d tau) (k0_pay68 ioC (wk1 d tau) (hit2 d tau)) (k0_pay74 ioC (wk1 d tau) (hit2 d tau))
    (k0_pay81 (wk3 d tau) (hit4 d tau)) (k0_pay87 ioC (wk3 d tau) (hit4 d tau)) (wk6 d tau)
/-- The candidates' positions. -/
def candIdx (d : FVec F S64x20096 .f32) (tau : FVec F S64x1 .f32) : IVec S64x1024 32 :=
  k0_pay100 ioC ioL (k0_pay60 d tau) (k0_pay67 ioC ioL (hit2 d tau)) (k0_pay73 ioC ioL (wk1 d tau) (hit2 d tau))
    (k0_pay80 ioL (cst4 d tau)) (k0_pay86 ioC ioL (wk3 d tau) (hit4 d tau)) (wk6 d tau) (k0_pay92 ioC ioL (wk3 d tau) (hit4 d tau))
/-- The candidates' overlaps. -/
def candIou (d a b : FVec F S64x20096 .f32) (p : IVec S64x20096 1) (tau : FVec F S64x1 .f32) : FVec F S64x1024 .f32 :=
  k0_pay101 (k0_pay48 a b p) ioC (k0_pay58 d a b p tau) (k0_pay65 (k0_pay48 a b p) ioC (hit2 d tau)) (k0_pay71 (k0_pay48 a b p) ioC (wk1 d tau) (hit2 d tau))
    (k0_pay78 (k0_pay48 a b p) (hit4 d tau) k0_pay77) (k0_pay84 (k0_pay48 a b p) ioC (wk3 d tau) (hit4 d tau)) (k0_pay90 (k0_pay48 a b p) ioC (wk3 d tau) (hit4 d tau)) (wk6 d tau)
/-- How many distances of each row are at most the threshold. -/
def trueCnt (d : FVec F S64x20096 .f32) (tau : FVec F S64x1 .f32) : IVec S64 32 := k0_pay102 (k0_pay47 d) (k0_pay53 tau)
/-- How many candidates of each row are at most the threshold. -/
def capCnt (d : FVec F S64x20096 .f32) (tau : FVec F S64x1 .f32) : IVec S64 32 :=
  k0_pay103 tau ioC (k0_pay55 d tau) (k0_pay61 d tau) (k0_pay68 ioC (wk1 d tau) (hit2 d tau)) (k0_pay74 ioC (wk1 d tau) (hit2 d tau))
    (k0_pay81 (wk3 d tau) (hit4 d tau)) (k0_pay87 ioC (wk3 d tau) (hit4 d tau)) (wk6 d tau)

/-- The bit the branch is taken on: whether the candidates of every row hold all it needs. -/
def okBit (t c : IVec S64 32) : BitVec 1 :=
  Scalar.cmpi .ne (Scalar.extui (Scalar.cmpf .ogt (k0_pay1 (F := F) t c) (Scalar.ofBits .f32 0x00000000#32 : F .f32)) : BitVec 32) 0#32

/-- The 64 rounds over the candidates: positions and overlaps. -/
def fastSel (val : FVec F S64x1024 .f32) (idx : IVec S64x1024 32) (iou : FVec F S64x1024 .f32) : IVec S64x64 32 × FVec F S64x64 .f32 :=
  (Scf.fold (fun (k : Fin k0_t2_loop.trips) (a : FVec F S64x1024 .f32 × IVec S64x64 32 × FVec F S64x64 .f32) =>
    (k0_pay7 idx a.1, k0_pay8 idx k a.1 a.2.1, k0_pay9 idx iou k a.1 a.2.2)) (val, k0_pay2, k0_pay3)).2
/-- The 64 rounds over the whole rows. -/
def slowSel (d iou : FVec F S64x20096 .f32) : IVec S64x64 32 × FVec F S64x64 .f32 :=
  (Scf.fold (fun (k : Fin k0_t3_loop.trips) (a : FVec F S64x20096 .f32 × IVec S64x64 32 × FVec F S64x64 .f32) =>
    (k0_pay15 a.1, k0_pay16 k a.1 a.2.1, k0_pay17 iou k a.1 a.2.2)) (d, k0_pay10, k0_pay11)).2
/-- The last nine rounds: the positions of the nine largest overlaps. -/
def nineSel (s : IVec S64x64 32 × FVec F S64x64 .f32) : IVec S64x9 32 :=
  (Scf.fold (fun (k : Fin k0_t4_loop.trips) (a : FVec F S64x64 .f32 × IVec S64x9 32) =>
    (k0_pay20 a.1, k0_pay21 s.1 k a.1 a.2)) (s.2, k0_pay18)).2

/-- The branch's result. -/
def sel (d a b : FVec F S64x20096 .f32) (p : IVec S64x20096 1) : IVec S64x64 32 × FVec F S64x64 .f32 :=
  if okBit (F := F) (trueCnt d (tauOf d)) (capCnt d (tauOf d)) = 1#1 then
    fastSel (candVal d (tauOf d)) (candIdx d (tauOf d)) (candIou d a b p (tauOf d))
  else slowSel d (k0_pay46 a b p)

/-- What a grid step leaves in the result's block. -/
def bodyOut (v0 : Vec F S1x4x20096 .f32) (v2 : Vec F S1x64x4 .f32) : Vec F S1x64x9 .i32 :=
  k0_pay22 (nineSel (sel (k0_pay33 v0 v2) (inter v0 v2) (union v0 v2) (unionPos v0 v2)))

/-! ## The step's triple -/

/-- The offsets of a whole block are zero. -/
theorem zero3 : (![0, 0, 0] : Fin 3 → ℕ) = fun _ => 0 := by funext a; fin_cases a <;> rfl

set_option maxHeartbeats 4000000 in
/-- The kernel body on whole staging memrefs, the inputs' at `x0` and `x1`: it ends with the inputs as they were and the
    result's at `bodyOut x0 x1`. -/
theorem sound_kernel (c : Dev nD) (E : Set ℕ) (i : grid0.Coords) (M0 : Memref sig .tc .vmem S1x4x20096 .f32) (h0 : M0.IsWhole)
    (M1 : Memref sig .tc .vmem S1x64x4 .f32) (h1 : M1.IsWhole) (M2 : Memref sig .tc .vmem S1x64x9 .i32) (h2 : M2.IsWhole)
    (x0 : Vec F S1x4x20096 .f32) (x1 : Vec F S1x64x4 .f32) (K : PUnit → sProp 𝕄) :
    iprop(owns (c : Thread nD τ) M0 fullShare x0 ∗ owns (c : Thread nD τ) M1 fullShare x1 ∗ (∃ d, owns (c : Thread nD τ) M2 fullShare d)
        ∗ (iprop(owns (c : Thread nD τ) M0 fullShare x0 ∗ owns (c : Thread nD τ) M1 fullShare x1 ∗ owns (c : Thread nD τ) M2 fullShare (bodyOut x0 x1)) -∗ K ⟨⟩))
      ⊢ wp frame (wpE (defs₀ (F := F)) Variants.none c none) E (cc0__matcher_body i M0 h0 M1 h1 M2 h2) K := by
  simp only [cc0__matcher_body_eq_skeleton]; unfold cc0__matcher_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%d2, %f2, -, H2⟩, Hk⟩
  subst hf0 hf1
  sl_exec
  split
  all_goals rename_i hc
  all_goals sl_exec
  all_goals sl_step
  all_goals iapply Hk
  all_goals isplitl [H0]
  any_goals (iexists f0; isplitr; · ipureintro; rfl
             iexact H0)
  all_goals isplitl [H1]
  any_goals (iexists f1; isplitr; · ipureintro; rfl
             iexact H1)
  all_goals (iexists _; isplitr; swap; · iexact H2)
  all_goals ipureintro
  all_goals
    refine (View.read_writes_full (s := S1x64x9) _ _ _ _ _).trans ?_
    rw [← View.ld_unit_zero (S := S1x4x20096) zero3 inb_S1x4x20096_S1x4x20096_0_0_0 (View.read (Elt F) M0.view f0),
      ← View.ld_unit_zero (S := S1x64x4) zero3 inb_S1x64x4_S1x64x4_0_0_0 (View.read (Elt F) M1.view f1)]
    unfold bodyOut sel
  · rw [if_pos (by exact hc)]; rfl
  · rw [if_neg (by exact hc)]; rfl

/-! ## The pipeline's proof data and the step at every point -/

variable (m : (ℓ : Loc nD τ sig) → Buf (Elt F) ℓ) (ρ : Dev nD → PrngReg)

/-- What the step at point `t` leaves in the result's block. -/
def outAt (c : Dev nD) (t : Fin cfg0.N) : Vec F S1x64x9 .i32 := bodyOut (iblk m c 0 t) (iblk m c 1 t)

/-- The arrays as the region finds them; after the step each input's block as it was and the result's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

/-- Each window's array is entered as the host operations leave it. -/
theorem A_eq (c : Dev nD) (w : Fin cfg0.W) : (dats m 0 c).A w = V m c (Pipeline.arrRef spec0 w) := by
  dsimp only [dats]
/-- A step leaves its first block as it was. -/
theorem after0_0 (c : Dev nD) (t : Fin cfg0.N) : (dats m 0 c).after 0 t = iblk m c 0 t := by dsimp only [dats]
/-- A step leaves its second block as it was. -/
theorem after0_1 (c : Dev nD) (t : Fin cfg0.N) : (dats m 0 c).after 1 t = iblk m c 1 t := by dsimp only [dats]
/-- What a step leaves in the result's block. -/
theorem after0_2 (c : Dev nD) (t : Fin cfg0.N) : (dats m 0 c).after 2 t = outAt m c t := by dsimp only [dats]
/-- The first input's buffer holds its block when the step starts. -/
theorem before0_0 (c : Dev nD) (t : Fin cfg0.N) (d) : (dats m 0 c).before 0 t d = iblk m c 0 t :=
  before0_0_of m (dats m 0 c) (A_eq m c 0) (after0_0 m c) t d
/-- The second input's buffer holds its block when the step starts. -/
theorem before0_1 (c : Dev nD) (t : Fin cfg0.N) (d) : (dats m 0 c).before 1 t d = iblk m c 1 t :=
  before0_1_of m (dats m 0 c) (A_eq m c 1) (after0_1 m c) t d

/-- The step at any point, from what it is called with to what it returns. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t))) := by
  unfold bodyAt0
  simp only [before0_0, before0_1]
  rw [show (dats m 0 c).Φ t.succ = (dats m 0 c).Φ t.castSucc from rfl,
    show (dats m 0 c).owesAt () t.succ = (dats m 0 c).owesAt () t.castSucc from rfl, after0_0, after0_1, after0_2]
  unfold outAt
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body that the pipeline calls at a point is the kernel's body there. -/
theorem defs₀_row (t : Fin cfg0.N) :
    defs₀ (F := F) .tc cfg0.body (cfg0.bodyArgs t (cfg0.slots t)) = bodyAt0 t := by
  unfold defs₀; rw [Defs.onTc_tc]

/-- The step's triple in the form that the pipeline's run takes. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 4000000 in
/-- For any float values, from any memory with zero counters: the program ends, every array of the pipeline holds what
    the steps wrote, every other array what the later host operations leave in it, and every counter is zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame at any float values: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) (A_eq m)) (run_main m ρ)

end Cert.KernelIdeal.Hand

end
-- ==== Proof.Rounds.lean ====
/-
  Selection by rounds, on plain functions of a finite index: a round takes the least value left, the least position
  word among the entries that hold it, and marks the entry taken with `⊤`; a second kind of round takes the greatest
  value left and marks it with `⊥`. Each theorem says that the rounds name the entries of a sequence that is ordered by
  value and then by position.
-/
module

public import Idealize.ShloMosaic.Lib.Pointwise

@[expose] public section

noncomputable section

namespace Cert.Rounds

open Idealize.ShloMosaic

variable {ι : Type} [Fintype ι] [DecidableEq ι]

/-! ## Folds that are attained -/

/-- A minimum fold from `⊤` is the entry that is at most every entry. -/
theorem foldMin_eq (f : ι → EReal) (c : ι) (h : ∀ i, f c ≤ f i) : Finset.univ.fold min ⊤ f = f c := by
  apply le_antisymm
  · rw [Finset.fold_min_le]; exact Or.inr ⟨c, Finset.mem_univ _, le_rfl⟩
  · rw [Finset.le_fold_min]; exact ⟨le_top, fun i _ => h i⟩

/-- A minimum fold from `⊤` is at most every entry. -/
theorem foldMin_le (f : ι → EReal) (i : ι) : Finset.univ.fold min ⊤ f ≤ f i := by
  rw [Finset.fold_min_le]; exact Or.inr ⟨i, Finset.mem_univ _, le_rfl⟩

/-- A minimum fold from `⊤` over a nonempty index is attained. -/
theorem foldMin_mem [Nonempty ι] (f : ι → EReal) : ∃ c, Finset.univ.fold min ⊤ f = f c ∧ ∀ i, f c ≤ f i := by
  obtain ⟨c, hc⟩ := Finite.exists_min f
  exact ⟨c, foldMin_eq f c hc, hc⟩

/-- A maximum fold from `⊥` is the entry that is at least every entry. -/
theorem foldMax_eq (f : ι → EReal) (c : ι) (h : ∀ i, f i ≤ f c) : Finset.univ.fold max ⊥ f = f c := by
  apply le_antisymm
  · rw [Finset.fold_max_le]; exact ⟨bot_le, fun i _ => h i⟩
  · rw [Finset.le_fold_max]; exact Or.inr ⟨c, Finset.mem_univ _, le_rfl⟩

/-- The signed minimum of two words, as an integer. -/
theorem toInt_minsi (x y : BitVec 32) : (IntOp.minsi x y).toInt = min x.toInt y.toInt := by
  unfold IntOp.minsi
  simp only [BitVec.sle_iff_toInt_le, BitVec.slt_iff_toInt_lt]
  split <;> omega

/-- A signed minimum fold from the greatest word is the entry that is at most every entry. -/
theorem foldMinsi_eq (f : ι → BitVec 32) (c : ι) (h : ∀ i, (f c).toInt ≤ (f i).toInt) :
    Finset.univ.fold IntOp.minsi 2147483647#32 f = f c := by
  have key : ∀ S : Finset ι, (∀ i ∈ S, (S.fold IntOp.minsi 2147483647#32 f).toInt ≤ (f i).toInt) ∧
      ((f c).toInt ≤ (S.fold IntOp.minsi 2147483647#32 f).toInt) := by
    intro S
    induction S using Finset.induction_on with
    | empty =>
      refine ⟨by simp, ?_⟩
      rw [Finset.fold_empty]
      have : (2147483647#32).toInt = 2147483647 := by decide
      have := BitVec.toInt_lt (x := f c)
      norm_num at this
      omega
    | insert a S ha ih =>
      rw [Finset.fold_insert ha, toInt_minsi]
      refine ⟨fun i hi => ?_, le_min (h a) ih.2⟩
      rcases Finset.mem_insert.1 hi with rfl | hi
      · exact min_le_left _ _
      · exact (min_le_right _ _).trans (ih.1 i hi)
  exact BitVec.eq_of_toInt_eq (le_antisymm ((key _).1 c (Finset.mem_univ _)) (key _).2)

/-- A sum fold from zero with one nonzero entry is that entry. -/
theorem foldAddi_eq (f : ι → BitVec 32) (c : ι) (h : ∀ i, i ≠ c → f i = 0#32) :
    Finset.univ.fold IntOp.addi 0#32 f = f c := by
  have hz : ∀ S : Finset ι, c ∉ S → S.fold IntOp.addi 0#32 f = 0#32 := by
    intro S
    induction S using Finset.induction_on with
    | empty => intro _; rfl
    | insert a S ha ih =>
      intro hc
      rw [Finset.fold_insert ha, ih (fun h' => hc (Finset.mem_insert_of_mem h')),
        h a (fun e => hc (e ▸ Finset.mem_insert_self _ _))]
      rfl
  rw [← Finset.insert_erase (Finset.mem_univ c), Finset.fold_insert (Finset.notMem_erase _ _),
    hz _ (Finset.notMem_erase _ _)]
  show f c + 0#32 = f c
  simp

/-- A natural below `2 ^ 31` read back, signed, from its word. -/
theorem toInt_ofNat (n : ℕ) (h : n < 2 ^ 31) : (BitVec.ofNat 32 n).toInt = n := by
  have h1 : (BitVec.ofNat 32 n).toNat = n := by rw [BitVec.toNat_ofNat]; omega
  rw [BitVec.toInt_eq_toNat_of_lt (by omega), h1]

/-- Naturals below `2 ^ 31` with one word are one. -/
theorem ofNat_inj {a b : ℕ} (ha : a < 2 ^ 31) (hb : b < 2 ^ 31) (e : BitVec.ofNat 32 a = BitVec.ofNat 32 b) : a = b := by
  have := congrArg BitVec.toInt e
  rw [toInt_ofNat a ha, toInt_ofNat b hb] at this
  exact_mod_cast this

/-! ## Sequences ordered by value and then by position -/

/-- The sequence `σ` lists, in its first `K` places, the positions of the `K` least values of `d`, ties by position. -/
def Sel {N : ℕ} (d : Fin N → EReal) (K : ℕ) (σ : ℕ → Fin N) : Prop :=
  (∀ k < K, ∀ j < k, σ j ≠ σ k) ∧
    ∀ k < K, ∀ n, (∀ j < k, σ j ≠ n) → d (σ k) < d n ∨ d (σ k) = d n ∧ σ k ≤ n

/-- A selected entry is at most every entry that is not selected before it. -/
theorem Sel.le {N : ℕ} {d : Fin N → EReal} {K : ℕ} {σ : ℕ → Fin N} (h : Sel d K σ) {k : ℕ} (hk : k < K) (n : Fin N)
    (hn : ∀ j < k, σ j ≠ n) : d (σ k) ≤ d n := by
  rcases h.2 k hk n hn with h | h
  · exact h.le
  · exact h.1.le

/-- Two sequences that list the least values of one function agree. -/
theorem Sel.unique {N : ℕ} {d : Fin N → EReal} {K : ℕ} {σ τ : ℕ → Fin N} (h : Sel d K σ) (h' : Sel d K τ) :
    ∀ k < K, σ k = τ k := by
  intro k
  induction k using Nat.strong_induction_on with
  | _ k ih =>
    intro hk
    have h1 := h.2 k hk (τ k) (fun j hj => by rw [ih j hj (hj.trans hk)]; exact h'.1 k hk j hj)
    have h2 := h'.2 k hk (σ k) (fun j hj => by rw [← ih j hj (hj.trans hk)]; exact h.1 k hk j hj)
    rcases h1 with h1 | h1 <;> rcases h2 with h2 | h2
    · exact absurd h1 (not_lt.2 h2.le)
    · exact absurd h1 (by rw [h2.1]; exact lt_irrefl _)
    · exact absurd h2 (by rw [h1.1]; exact lt_irrefl _)
    · exact le_antisymm h1.2 h2.2

/-- When at least `K` entries are at most `t`, the first `K` of the sequence are at most `t`. -/
theorem Sel.le_of_card {N : ℕ} {d : Fin N → EReal} {K : ℕ} {σ : ℕ → Fin N} (h : Sel d K σ) (t : EReal)
    (T : Finset (Fin N)) (hT : K ≤ T.card) (hd : ∀ n ∈ T, d n ≤ t) : ∀ k < K, d (σ k) ≤ t := by
  intro k hk
  have : ∃ n ∈ T, n ∉ (Finset.range k).image σ := by
    by_contra hcon
    push Not at hcon
    have := Finset.card_le_card (show T ⊆ (Finset.range k).image σ from hcon)
    have := (Finset.card_image_le (s := Finset.range k) (f := σ))
    rw [Finset.card_range] at this
    omega
  obtain ⟨n, hn, hn'⟩ := this
  refine (h.le hk n fun j hj e => hn' ?_).trans (hd n hn)
  exact Finset.mem_image.2 ⟨j, Finset.mem_range.2 hj, e⟩

/-! ## Rounds of least value -/

/-- The least value. -/
def rmin (v : ι → EReal) : EReal := Finset.univ.fold min ⊤ v

/-- The least word among the entries that hold the least value. -/
def ridx (ix : ι → BitVec 32) (v : ι → EReal) : BitVec 32 :=
  Finset.univ.fold IntOp.minsi 2147483647#32 fun c => if v c = rmin v then ix c else 1073741824#32

/-- The values after a round: the entry that holds the least value and the least word is marked. -/
def rnext (ix : ι → BitVec 32) (v : ι → EReal) : ι → EReal :=
  fun c => if v c = rmin v ∧ ix c = ridx ix v then ⊤ else v c

/-- The attached number of the entry a round takes. -/
def riou (neg : EReal) (ix : ι → BitVec 32) (io v : ι → EReal) : EReal :=
  Finset.univ.fold max ⊥ fun c => if v c = rmin v ∧ ix c = ridx ix v then io c else neg

/-- The entries `ι` are candidates for the positions of `d`: those with a value below `⊤` each stand for one position,
and the first `K` of the sequence `σ` are among them. -/
structure Cands {N : ℕ} (d e : Fin N → EReal) (K : ℕ) (σ : ℕ → Fin N) (ix : ι → BitVec 32) (io v : ι → EReal)
    (pos : ι → Fin N) : Prop where
  word : ∀ c, v c < ⊤ → ix c = BitVec.ofNat 32 (pos c)
  val : ∀ c, v c < ⊤ → v c = d (pos c)
  att : ∀ c, v c < ⊤ → io c = e (pos c)
  inj : ∀ c c', v c < ⊤ → v c' < ⊤ → pos c = pos c' → c = c'
  cov : ∀ k < K, ∃ c, v c < ⊤ ∧ pos c = σ k

section
variable {N : ℕ} {d e : Fin N → EReal} {K : ℕ} {σ : ℕ → Fin N} {ix : ι → BitVec 32} {io v : ι → EReal} {pos : ι → Fin N}

/-- What the values are after `k` rounds. -/
def Marked (σ : ℕ → Fin N) (v : ι → EReal) (pos : ι → Fin N) (k : ℕ) (w : ι → EReal) : Prop :=
  ∀ c, (v c < ⊤ ∧ (∃ j < k, σ j = pos c) ∧ w c = ⊤) ∨ ((v c < ⊤ → ∀ j < k, σ j ≠ pos c) ∧ w c = v c)

/-- One round on marked values takes the sequence's next entry. -/
theorem round (hN : N ≤ 2 ^ 30) (hs : Sel d K σ) (hc : Cands d e K σ ix io v pos) {neg : EReal} (hneg : ∀ n, neg ≤ e n)
    {k : ℕ} (hk : k < K) {w : ι → EReal} (hw : Marked σ v pos k w) :
    ridx ix w = BitVec.ofNat 32 (σ k) ∧ riou neg ix io w = e (σ k) ∧ Marked σ v pos (k + 1) (rnext ix w) := by
  obtain ⟨c, hcv, hcp⟩ := hc.cov k hk
  have hwc : w c = d (σ k) := by
    rcases hw c with ⟨_, ⟨j, hj, e⟩, _⟩ | ⟨_, h⟩
    · exact absurd (e.trans hcp) (hs.1 k hk j hj)
    · rw [h, hc.val c hcv, hcp]
  have hlt : d (σ k) < ⊤ := by rw [← hcp, ← hc.val c hcv]; exact hcv
  have hle : ∀ i, w c ≤ w i := by
    intro i
    rcases hw i with ⟨_, _, h⟩ | ⟨h1, h⟩
    · rw [h]; exact le_top
    · rw [h, hwc]
      rcases eq_or_lt_of_le (le_top (a := v i)) with ht | ht
      · rw [ht]; exact le_top
      · rw [hc.val i ht]; exact hs.le hk _ (h1 ht)
  have hmin : rmin w = d (σ k) := by rw [rmin, foldMin_eq w c hle, hwc]
  have hsl : ∀ n : Fin N, (n : ℕ) < 2 ^ 31 := fun n => by have := n.2; omega
  have hidx : ridx ix w = BitVec.ofNat 32 (σ k) := by
    unfold ridx
    rw [foldMinsi_eq _ c]
    · rw [if_pos (by rw [hmin, hwc]), hc.word c hcv, hcp]
    · intro i
      rw [if_pos (by rw [hmin, hwc]), hc.word c hcv, hcp, toInt_ofNat _ (hsl _)]
      split
      · rename_i hi
        have hi' : w i < ⊤ := by rw [hi, hmin]; exact hlt
        rcases hw i with ⟨_, _, h⟩ | ⟨h1, h⟩
        · exact absurd hi' (by rw [h]; exact lt_irrefl _)
        · rw [h] at hi'
          rw [hc.word i hi', toInt_ofNat _ (hsl _)]
          rcases hs.2 k hk (pos i) (h1 hi') with h2 | h2
          · rw [← hc.val i hi', ← h, hi, hmin] at h2
            exact absurd h2 (lt_irrefl _)
          · exact_mod_cast h2.2
      · have : (1073741824#32).toInt = 1073741824 := by decide
        have := (σ k).2
        omega
  have hhit : ∀ i, (w i = rmin w ∧ ix i = ridx ix w) ↔ i = c := by
    intro i
    constructor
    · rintro ⟨h1, h2⟩
      have hi' : w i < ⊤ := by rw [h1, hmin]; exact hlt
      rcases hw i with ⟨_, _, h⟩ | ⟨_, h⟩
      · exact absurd hi' (by rw [h]; exact lt_irrefl _)
      · rw [h] at hi'
        refine hc.inj i c hi' hcv ?_
        rw [hc.word i hi', hidx] at h2
        rw [hcp]
        exact Fin.ext (ofNat_inj (hsl _) (hsl _) h2)
    · rintro rfl
      exact ⟨by rw [hmin, hwc], by rw [hidx, hc.word _ hcv, hcp]⟩
  refine ⟨hidx, ?_, ?_⟩
  · unfold riou
    rw [foldMax_eq _ c]
    · rw [if_pos ((hhit c).2 rfl), hc.att c hcv, hcp]
    · intro i
      rw [if_pos ((hhit c).2 rfl), hc.att c hcv]
      split
      · rename_i h
        rw [(hhit i).1 h, hc.att c hcv]
      · exact hneg _
  · intro i
    by_cases hi : i = c
    · subst hi
      left
      refine ⟨hcv, ⟨k, Nat.lt_succ_self k, hcp.symm⟩, ?_⟩
      unfold rnext
      rw [if_pos ((hhit i).2 rfl)]
    · have hne : rnext ix w i = w i := by
        unfold rnext
        rw [if_neg (fun h => hi ((hhit i).1 h))]
      rw [hne]
      rcases hw i with ⟨h1, ⟨j, hj, e⟩, h⟩ | ⟨h1, h⟩
      · exact Or.inl ⟨h1, ⟨j, by omega, e⟩, h⟩
      · refine Or.inr ⟨fun ht j hj => ?_, h⟩
        rcases Nat.lt_succ_iff_lt_or_eq.1 hj with hj | rfl
        · exact h1 ht j hj
        · intro e
          exact hi (hc.inj i c ht hcv (by rw [← e, hcp]))

/-- After `k ≤ K` rounds the values are marked. -/
theorem marked (hN : N ≤ 2 ^ 30) (hs : Sel d K σ) (hc : Cands d e K σ ix io v pos) {neg : EReal} (hneg : ∀ n, neg ≤ e n) :
    ∀ k ≤ K, Marked σ v pos k ((rnext ix)^[k] v) := by
  intro k
  induction k with
  | zero => intro _ c; exact Or.inr ⟨fun _ j hj => absurd hj (Nat.not_lt_zero j), rfl⟩
  | succ k ih =>
    intro hk
    rw [Function.iterate_succ_apply']
    exact (round hN hs hc hneg (Nat.lt_of_succ_le hk) (ih (by omega))).2.2

/-- Round `k` names the sequence's entry `k` and its attached number. -/
theorem rounds (hN : N ≤ 2 ^ 30) (hs : Sel d K σ) (hc : Cands d e K σ ix io v pos) {neg : EReal} (hneg : ∀ n, neg ≤ e n)
    {k : ℕ} (hk : k < K) :
    ridx ix ((rnext ix)^[k] v) = BitVec.ofNat 32 (σ k) ∧ riou neg ix io ((rnext ix)^[k] v) = e (σ k) :=
  have h := round hN hs hc hneg hk (marked hN hs hc hneg k hk.le)
  ⟨h.1, h.2.1⟩

end

/-! ## Rounds of greatest value -/

section
variable {M : ℕ}

/-- The greatest value. -/
def xmax (w : Fin M → EReal) : EReal := Finset.univ.fold max ⊥ w

/-- The least position that holds the greatest value (the word `cap` where there is none). -/
def xpos (cap : BitVec 32) (w : Fin M → EReal) : BitVec 32 :=
  Finset.univ.fold IntOp.minsi 2147483647#32 fun c : Fin M => if w c = xmax w then BitVec.ofNat 32 c else cap

/-- The values after a round: the position taken is marked. -/
def xnext (cap : BitVec 32) (w : Fin M → EReal) : Fin M → EReal :=
  fun c => if BitVec.ofNat 32 c = xpos cap w then ⊥ else w c

/-- The word attached to the position a round takes. -/
def xout (cap : BitVec 32) (ix : Fin M → BitVec 32) (w : Fin M → EReal) : BitVec 32 :=
  Finset.univ.fold IntOp.addi 0#32 fun c : Fin M => if BitVec.ofNat 32 c = xpos cap w then ix c else 0#32

/-- What the values are after `k` rounds of greatest value. -/
def XMarked (π : ℕ → Fin M) (v : Fin M → EReal) (k : ℕ) (w : Fin M → EReal) : Prop :=
  ∀ c, ((∃ j < k, π j = c) ∧ w c = ⊥) ∨ ((∀ j < k, π j ≠ c) ∧ w c = v c)

/-- The least position holding the greatest value is a position; it is what a round marks. -/
theorem xpos_eq {cap : BitVec 32} (hcap : (M : ℤ) ≤ cap.toInt) (hM : M < 2 ^ 31) (w : Fin M → EReal) (c : Fin M)
    (h : ∀ i, w i < w c ∨ w i = w c ∧ c ≤ i) : xpos cap w = BitVec.ofNat 32 c := by
  have hmax : xmax w = w c := foldMax_eq w c fun i => by
    rcases h i with h | h
    · exact h.le
    · exact h.1.le
  unfold xpos
  have hsl : ∀ n : Fin M, (n : ℕ) < 2 ^ 31 := fun n => by have := n.2; omega
  rw [foldMinsi_eq _ c]
  · rw [if_pos hmax.symm]
  · intro i
    rw [if_pos hmax.symm, toInt_ofNat _ (hsl _)]
    split
    · rename_i hi
      rw [toInt_ofNat _ (hsl _)]
      rcases h i with h | h
      · rw [hi, hmax] at h; exact absurd h (lt_irrefl _)
      · exact_mod_cast h.2
    · have := c.2; omega

/-- One round of the second kind gives the next place's word and marks that place. -/
theorem xround {cap : BitVec 32} (hcap : (M : ℤ) ≤ cap.toInt) (hM : M < 2 ^ 31) {v : Fin M → EReal} (hv : ∀ c, ⊥ < v c)
    {K : ℕ} {π : ℕ → Fin M} (hs : Sel (fun c => -v c) K π) (ix : Fin M → BitVec 32) {k : ℕ} (hk : k < K)
    {w : Fin M → EReal} (hw : XMarked π v k w) :
    xout cap ix w = ix (π k) ∧ XMarked π v (k + 1) (xnext cap w) := by
  have hwk : w (π k) = v (π k) := by
    rcases hw (π k) with ⟨⟨j, hj, e⟩, _⟩ | ⟨_, h⟩
    · exact absurd e (hs.1 k hk j hj)
    · exact h
  have hpos := xpos_eq hcap hM w (π k) fun i => by
    rw [hwk]
    rcases hw i with ⟨_, h⟩ | ⟨h1, h⟩
    · rw [h]; exact Or.inl (hv _)
    · rw [h]
      rcases hs.2 k hk i h1 with h2 | h2
      · exact Or.inl (EReal.neg_lt_neg_iff.1 h2)
      · exact Or.inr ⟨(neg_inj.1 h2.1).symm, h2.2⟩
  have hsl : ∀ n : Fin M, (n : ℕ) < 2 ^ 31 := fun n => by have := n.2; omega
  have hhit : ∀ i : Fin M, BitVec.ofNat 32 i = xpos cap w ↔ i = π k := fun i => by
    rw [hpos]
    exact ⟨fun e => Fin.ext (ofNat_inj (hsl _) (hsl _) e), fun e => by rw [e]⟩
  refine ⟨?_, fun i => ?_⟩
  · unfold xout
    rw [foldAddi_eq _ (π k)]
    · rw [if_pos ((hhit _).2 rfl)]
    · intro i hi
      rw [if_neg (fun h => hi ((hhit i).1 h))]
  · unfold xnext
    by_cases hi : i = π k
    · rw [if_pos ((hhit i).2 hi)]
      exact Or.inl ⟨⟨k, Nat.lt_succ_self k, hi.symm⟩, rfl⟩
    · rw [if_neg (fun h => hi ((hhit i).1 h))]
      rcases hw i with ⟨⟨j, hj, e⟩, h⟩ | ⟨h1, h⟩
      · exact Or.inl ⟨⟨j, by omega, e⟩, h⟩
      · refine Or.inr ⟨fun j hj => ?_, h⟩
        rcases Nat.lt_succ_iff_lt_or_eq.1 hj with hj | rfl
        · exact h1 j hj
        · exact fun e => hi e.symm

/-- Round `k` of greatest value gives the word attached to the entry `k` of the sequence ordered by falling value and
then by position. -/
theorem xrounds {cap : BitVec 32} (hcap : (M : ℤ) ≤ cap.toInt) (hM : M < 2 ^ 31) {v : Fin M → EReal} (hv : ∀ c, ⊥ < v c)
    {K : ℕ} {π : ℕ → Fin M} (hs : Sel (fun c => -v c) K π) (ix : Fin M → BitVec 32) {k : ℕ} (hk : k < K) :
    xout cap ix ((xnext cap)^[k] v) = ix (π k) := by
  have : ∀ k ≤ K, XMarked π v k ((xnext cap)^[k] v) := by
    intro k
    induction k with
    | zero => intro _ c; exact Or.inr ⟨fun j hj => absurd hj (Nat.not_lt_zero j), rfl⟩
    | succ k ih =>
      intro hk
      rw [Function.iterate_succ_apply']
      exact (xround hcap hM hv hs ix (Nat.lt_of_succ_le hk) (ih (by omega))).2
  exact (xround hcap hM hv hs ix hk (this k hk.le)).1

end

end Cert.Rounds
-- ==== Proof.Levels.lean ====
/-
  The candidates of a row, on plain functions: a threshold below which at least as many values lie as there were rounds,
  the least values of each lane in turn, and the theorem that these candidates hold every value up to the threshold when
  there are as many of them as there are such values.
-/
module

public import proofs.«01_k».proof.Proof.Rounds
public import Idealize.ShloMosaic.Lib.IndicatorCount

@[expose] public section

noncomputable section

namespace Cert.Rounds

open Idealize.ShloMosaic

/-! ## The threshold -/

/-- One round on the chunks' least values: the least of them, and every chunk that holds it marked. -/
def tstep {C : ℕ} (s : (Fin C → EReal) × EReal) : (Fin C → EReal) × EReal :=
  (fun c => if s.1 c = rmin s.1 then ⊤ else s.1 c, rmin s.1)

/-- When the threshold after `k` rounds is finite, `k` entries lie at or below it. -/
theorem tau_card {C N : ℕ} [NeZero C] (d : Fin N → EReal) (M : Fin C → EReal) (hM : ∀ c, M c = ⊤ ∨ ∃ n, M c = d n)
    (k : ℕ) (hlt : ((tstep (C := C))^[k] (M, 0)).2 < ⊤) :
    ∃ T : Finset (Fin N), T.card = k ∧ ∀ n ∈ T, d n ≤ ((tstep (C := C))^[k] (M, 0)).2 := by
  have key : ∀ k, (∀ c, ((tstep (C := C))^[k] (M, 0)).1 c = ⊤ ∨ ∃ n, ((tstep (C := C))^[k] (M, 0)).1 c = d n) ∧
      (((tstep (C := C))^[k] (M, 0)).2 = ⊤ → ∀ c, ((tstep (C := C))^[k] (M, 0)).1 c = ⊤) ∧
      (((tstep (C := C))^[k] (M, 0)).2 < ⊤ → ∃ T : Finset (Fin N), T.card = k ∧ ∀ n ∈ T,
        d n ≤ ((tstep (C := C))^[k] (M, 0)).2 ∧
          ∀ c, ((tstep (C := C))^[k] (M, 0)).1 c ≠ ⊤ → d n < ((tstep (C := C))^[k] (M, 0)).1 c) := by
    intro k
    induction k with
    | zero =>
      refine ⟨hM, fun h => absurd h (by simp), fun _ => ⟨∅, rfl, by simp⟩⟩
    | succ k ih =>
      rw [Function.iterate_succ_apply']
      generalize (tstep (C := C))^[k] (M, 0) = s at ih
      obtain ⟨h1, h2, h3⟩ := ih
      obtain ⟨c, hc, hle⟩ := foldMin_mem s.1
      have hm : rmin s.1 = s.1 c := hc
      refine ⟨fun i => ?_, fun ht i => ?_, fun ht => ?_⟩
      · simp only [tstep]
        split
        · exact Or.inl rfl
        · exact h1 i
      · simp only [tstep] at ht ⊢
        split
        · rfl
        · rw [ht] at hm
          exact top_le_iff.1 (hm ▸ hle i)
      · simp only [tstep] at ht ⊢
        have hs : s.2 < ⊤ := by
          refine lt_top_iff_ne_top.2 fun h => ?_
          rw [hm, h2 h c] at ht
          exact lt_irrefl _ ht
        obtain ⟨T, hT, hd⟩ := h3 hs
        have hct : s.1 c ≠ ⊤ := by rw [← hm]; exact ht.ne
        obtain ⟨n, hn⟩ := (h1 c).resolve_left hct
        have hnT : n ∉ T := fun h => by
          have := (hd n h).2 c hct
          rw [hn] at this
          exact lt_irrefl _ this
        refine ⟨insert n T, by rw [Finset.card_insert_of_notMem hnT, hT], fun i hi => ?_⟩
        have hile : d i ≤ s.1 c := by
          rcases Finset.mem_insert.1 hi with rfl | hi
          · exact hn.ge
          · exact ((hd i hi).2 c hct).le
        refine ⟨by rw [hm]; exact hile, fun a ha => ?_⟩
        split at ha
        · exact absurd rfl ha
        · rename_i hne
          rw [if_neg hne]
          exact hile.trans_lt (lt_of_le_of_ne (hle a) (fun h => hne (by rw [hm, h])))
  obtain ⟨T, hT, h⟩ := (key k).2.2 hlt
  exact ⟨T, hT, fun n hn => (h n hn).1⟩

/-! ## The least values of a lane -/

/-- A position's word. -/
def cw {C : ℕ} (c : Fin C) : BitVec 32 := BitVec.ofNat 32 c

section
variable {C : ℕ} [NeZero C]

/-- The least chunk number that holds the least value is the word of a chunk that holds it. -/
theorem star_exists (hC : C ≤ 2 ^ 30) (x : Fin C → EReal) : ∃ s : Fin C, ridx cw x = BitVec.ofNat 32 s ∧ rmin x = x s := by
  obtain ⟨c, hc, -⟩ := foldMin_mem x
  have hne : (Finset.univ.filter fun i => x i = rmin x).Nonempty := ⟨c, Finset.mem_filter.2 ⟨Finset.mem_univ _, hc.symm⟩⟩
  have hmem := (Finset.mem_filter.1 (Finset.min'_mem _ hne)).2
  refine ⟨Finset.min' _ hne, ?_, hmem.symm⟩
  have hsl : ∀ n : Fin C, (n : ℕ) < 2 ^ 31 := fun n => by have := n.2; omega
  unfold ridx
  rw [foldMinsi_eq _ (Finset.min' _ hne)]
  · rw [if_pos hmem]; rfl
  · intro i
    rw [if_pos hmem]
    unfold cw
    rw [toInt_ofNat _ (hsl _)]
    split
    · rename_i hi
      rw [toInt_ofNat _ (hsl _)]
      exact_mod_cast Finset.min'_le _ i (Finset.mem_filter.2 ⟨Finset.mem_univ _, hi⟩)
    · have : (1073741824#32).toInt = 1073741824 := by decide
      have := (Finset.min' _ hne).2
      omega

/-- The least position that holds a lane's least value. -/
def star (hC : C ≤ 2 ^ 30) (x : Fin C → EReal) : Fin C := (star_exists hC x).choose

/-- The chunk number is the chosen chunk's word. -/
theorem star_word (hC : C ≤ 2 ^ 30) (x : Fin C → EReal) : ridx cw x = BitVec.ofNat 32 (star hC x) :=
  (star_exists hC x).choose_spec.1

/-- The chosen chunk holds the least value. -/
theorem star_min (hC : C ≤ 2 ^ 30) (x : Fin C → EReal) : rmin x = x (star hC x) := (star_exists hC x).choose_spec.2

/-- A chunk's word is the chunk number only at the chosen chunk. -/
theorem star_hit (hC : C ≤ 2 ^ 30) (x : Fin C → EReal) (c : Fin C) : cw c = ridx cw x ↔ c = star hC x := by
  have hsl : ∀ n : Fin C, (n : ℕ) < 2 ^ 31 := fun n => by have := n.2; omega
  rw [star_word hC]
  exact ⟨fun e => Fin.ext (ofNat_inj (hsl _) (hsl _) e), fun e => by rw [e]; rfl⟩

/-- The values of a lane after one level: the least position that holds the least value is marked. -/
def lnext (x : Fin C → EReal) : Fin C → EReal := fun c => if cw c = ridx cw x then ⊤ else x c

/-- The attached number of the position a level takes. -/
def latt (neg : EReal) (e x : Fin C → EReal) : EReal :=
  Finset.univ.fold max ⊥ fun c => if cw c = ridx cw x then e c else neg

/-- The value that a level takes along is the chosen chunk's. -/
theorem latt_eq (hC : C ≤ 2 ^ 30) {neg : EReal} (e x : Fin C → EReal) (hneg : ∀ c, neg ≤ e c) :
    latt neg e x = e (star hC x) := by
  unfold latt
  rw [foldMax_eq _ (star hC x)]
  · rw [if_pos ((star_hit hC x _).2 rfl)]
  · intro i
    rw [if_pos ((star_hit hC x _).2 rfl)]
    split
    · rename_i h
      rw [(star_hit hC x i).1 h]
    · exact hneg _

/-- After `k` levels an entry is what it was, or it was taken and is marked. -/
theorem levels (hC : C ≤ 2 ^ 30) (x : Fin C → EReal) (k : ℕ) (c : Fin C) :
    ((∀ j < k, star hC (lnext^[j] x) ≠ c) ∧ lnext^[k] x c = x c) ∨
      ((∃ j < k, star hC (lnext^[j] x) = c) ∧ lnext^[k] x c = ⊤) := by
  induction k with
  | zero => exact Or.inl ⟨fun j hj => absurd hj (Nat.not_lt_zero j), rfl⟩
  | succ k ih =>
    rw [Function.iterate_succ_apply']
    have hn : lnext (lnext^[k] x) c = if c = star hC (lnext^[k] x) then ⊤ else lnext^[k] x c := by
      unfold lnext
      exact if_congr (star_hit hC _ c) rfl rfl
    rw [hn]
    by_cases h : c = star hC (lnext^[k] x)
    · rw [if_pos h]
      exact Or.inr ⟨⟨k, Nat.lt_succ_self k, h.symm⟩, rfl⟩
    · rw [if_neg h]
      rcases ih with ⟨h1, h2⟩ | ⟨⟨j, hj, e⟩, h2⟩
      · refine Or.inl ⟨fun j hj => ?_, h2⟩
        rcases Nat.lt_succ_iff_lt_or_eq.1 hj with hj | rfl
        · exact h1 j hj
        · exact fun e => h e.symm
      · exact Or.inr ⟨⟨j, by omega, e⟩, h2⟩

end

/-! ## The candidates of a row -/

section
variable (d e : Fin 20096 → EReal) (t : EReal)

/-- There are few enough chunks for the sentinel word. -/
theorem C_le : 157 ≤ 2 ^ 30 := by norm_num

/-- The position of chunk `c` in lane `l`. -/
def at2 (c : Fin 157) (l : Fin 128) : Fin 20096 := ⟨c * 128 + l, by omega⟩

/-- A position has one chunk and one lane. -/
theorem at2_inj {c c' : Fin 157} {l l' : Fin 128} (h : at2 c l = at2 c' l') : c = c' ∧ l = l' := by
  have := congrArg Fin.val h
  simp only [at2] at this
  constructor <;> apply Fin.ext <;> omega

/-- Every position has a chunk and a lane. -/
theorem at2_surj (n : Fin 20096) : ∃ c l, at2 c l = n :=
  ⟨⟨n / 128, by omega⟩, ⟨n % 128, by omega⟩, Fin.ext (by simp only [at2]; omega)⟩

/-- Lane `l`: its values up to the threshold. -/
def lane0 (l : Fin 128) : Fin 157 → EReal := fun c => if d (at2 c l) ≤ t then d (at2 c l) else ⊤

/-- Lane `l` after `k` levels. -/
def lane (k : ℕ) (l : Fin 128) : Fin 157 → EReal := lnext^[k] (lane0 d t l)

/-- Candidate `c` is level `c / 128` of lane `c % 128`: the lane it comes from. -/
def cl (c : Fin 1024) : Fin 128 := ⟨c % 128, by omega⟩

/-- The candidate's value. -/
def cval (c : Fin 1024) : EReal := rmin (lane d t (c / 128) (cl c))

/-- The candidate's position. -/
def cpos (c : Fin 1024) : Fin 20096 := at2 (star C_le (lane d t (c / 128) (cl c))) (cl c)

/-- The candidate's position word. -/
def cidx (c : Fin 1024) : BitVec 32 := ridx cw (lane d t (c / 128) (cl c)) * 128#32 + BitVec.ofNat 32 (c % 128)

/-- The candidate's attached number. -/
def catt (neg : EReal) (c : Fin 1024) : EReal := latt neg (fun i => e (at2 i (cl c))) (lane d t (c / 128) (cl c))

/-- A candidate's position word is its position's. -/
theorem cidx_eq (c : Fin 1024) : cidx d t c = BitVec.ofNat 32 (cpos d t c) := by
  unfold cidx cpos
  rw [star_word C_le]
  simp only [at2, cl]
  rw [BitVec.ofNat_add, BitVec.ofNat_mul]

/-- A finite candidate is the entry at its position, it is under the threshold, and no earlier level of its lane took it. -/
theorem cval_spec (c : Fin 1024) (h : cval d t c < ⊤) : cval d t c = d (cpos d t c) ∧ d (cpos d t c) ≤ t ∧
    ∀ j < (c : ℕ) / 128, star C_le (lane d t j (cl c)) ≠ star C_le (lane d t (c / 128) (cl c)) := by
  unfold cval at h ⊢
  rw [star_min C_le] at h ⊢
  rcases levels C_le (lane0 d t (cl c)) (c / 128) (star C_le (lane d t (c / 128) (cl c))) with ⟨h1, h2⟩ | ⟨_, h2⟩
  · have h3 : lane d t (c / 128) (cl c) (star C_le (lane d t (c / 128) (cl c))) =
      lane0 d t (cl c) (star C_le (lane d t (c / 128) (cl c))) := h2
    rw [h3] at h ⊢
    unfold lane0 at h ⊢
    split at h
    · rename_i hle
      rw [if_pos hle]
      exact ⟨rfl, hle, h1⟩
    · exact absurd h (lt_irrefl _)
  · have h3 : lane d t (c / 128) (cl c) (star C_le (lane d t (c / 128) (cl c))) = ⊤ := h2
    rw [h3] at h
    exact absurd h (lt_irrefl _)

/-- Two finite candidates of one position are one candidate. -/
theorem cpos_inj (c c' : Fin 1024) (h : cval d t c < ⊤) (h' : cval d t c' < ⊤) (he : cpos d t c = cpos d t c') : c = c' := by
  obtain ⟨e1, e2⟩ := at2_inj he
  have e3 := congrArg Fin.val e2
  simp only [cl] at e3
  rw [e2] at e1
  have s := (cval_spec d t c h).2.2
  have s' := (cval_spec d t c' h').2.2
  rw [e2] at s
  rcases lt_trichotomy ((c : ℕ) / 128) ((c' : ℕ) / 128) with hl | hl | hl
  · exact absurd e1 (s' _ hl)
  · exact Fin.ext (by omega)
  · exact absurd e1.symm (s _ hl)

/-- When there are as many candidates up to the threshold as positions up to it, and at least `K`, the candidates stand
for the row's first `K` positions. -/
theorem fast_cands {K : ℕ} {σ : ℕ → Fin 20096} (hs : Sel d K σ) (ht : t < ⊤) {neg : EReal} (hneg : ∀ n, neg ≤ e n)
    (T : Finset (Fin 20096)) (hT : K ≤ T.card) (hd : ∀ n ∈ T, d n ≤ t)
    (hcount : (Finset.univ.filter fun n => d n ≤ t).card = (Finset.univ.filter fun c => cval d t c ≤ t).card) :
    Cands d e K σ (cidx d t) (catt d e t neg) (cval d t) (cpos d t) where
  word c _ := cidx_eq d t c
  val c h := (cval_spec d t c h).1
  att c _ := latt_eq C_le _ _ fun i => hneg _
  inj c c' := cpos_inj d t c c'
  cov k hk := by
    have himg : (Finset.univ.filter fun c => cval d t c ≤ t).image (cpos d t) = Finset.univ.filter fun n => d n ≤ t := by
      apply Finset.eq_of_subset_of_card_le
      · intro n hn
        obtain ⟨c, hc, rfl⟩ := Finset.mem_image.1 hn
        exact Finset.mem_filter.2 ⟨Finset.mem_univ _, (cval_spec d t c ((Finset.mem_filter.1 hc).2.trans_lt ht)).2.1⟩
      · rw [hcount, Finset.card_image_of_injOn]
        intro c hc c' hc' he
        exact cpos_inj d t c c' ((Finset.mem_filter.1 hc).2.trans_lt ht) ((Finset.mem_filter.1 hc').2.trans_lt ht) he
    have hle := hs.le_of_card t T hT hd k hk
    have hmem : σ k ∈ (Finset.univ.filter fun c => cval d t c ≤ t).image (cpos d t) := by
      rw [himg]; exact Finset.mem_filter.2 ⟨Finset.mem_univ _, hle⟩
    obtain ⟨c, hc, he⟩ := Finset.mem_image.1 hmem
    exact ⟨c, (Finset.mem_filter.1 hc).2.trans_lt ht, he⟩

/-- The two counts, as words, are equal only when the threshold is finite and the counts agree. -/
theorem count_words
    (h : Finset.univ.fold IntOp.addi 0#32 (fun x : Fin 157 × Fin 128 =>
        BitVec.setWidth 32 (BitVec.ofBool (decide (d (at2 x.1 x.2) ≤ t)))) =
      Finset.univ.fold IntOp.addi 0#32 (fun c : Fin 1024 => BitVec.setWidth 32 (BitVec.ofBool (decide (cval d t c ≤ t))))) :
    t < ⊤ ∧ (Finset.univ.filter fun n => d n ≤ t).card = (Finset.univ.filter fun c => cval d t c ≤ t).card := by
  rw [Idealize.ShloMosaic.IndicatorCount.fold_addi_setWidth_eq_card, Idealize.ShloMosaic.IndicatorCount.fold_addi_setWidth_eq_card] at h
  have hb : ∀ p : Prop, [Decidable p] → (BitVec.ofBool (decide p) = 1#1 ↔ p) := by
    intro p _
    by_cases hp : p <;> simp [hp]
  simp only [hb] at h
  have h1 : (Finset.univ.filter fun x : Fin 157 × Fin 128 => d (at2 x.1 x.2) ≤ t).card =
      (Finset.univ.filter fun n => d n ≤ t).card := by
    refine Finset.card_bij (fun x _ => at2 x.1 x.2) ?_ ?_ ?_
    · intro x hx
      exact Finset.mem_filter.2 ⟨Finset.mem_univ _, (Finset.mem_filter.1 hx).2⟩
    · intro x _ y _ hxy
      exact Prod.ext (at2_inj hxy).1 (at2_inj hxy).2
    · intro n hn
      obtain ⟨c, l, rfl⟩ := at2_surj n
      exact ⟨(c, l), Finset.mem_filter.2 ⟨Finset.mem_univ _, (Finset.mem_filter.1 hn).2⟩, rfl⟩
  rw [h1] at h
  have l1 : (Finset.univ.filter fun n => d n ≤ t).card ≤ 20096 := by
    have := Finset.card_le_univ (Finset.univ.filter fun n => d n ≤ t)
    rwa [Fintype.card_fin] at this
  have l2 : (Finset.univ.filter fun c => cval d t c ≤ t).card ≤ 1024 := by
    have := Finset.card_le_univ (Finset.univ.filter fun c => cval d t c ≤ t)
    rwa [Fintype.card_fin] at this
  have h := ofNat_inj (by omega) (by omega) h
  refine ⟨lt_top_iff_ne_top.2 fun ht => ?_, h⟩
  have h3 : (Finset.univ.filter fun n => d n ≤ t).card = 20096 := by
    rw [Finset.filter_true_of_mem (fun n _ => by rw [ht]; exact le_top), Finset.card_univ, Fintype.card_fin]
  omega

end

end Cert.Rounds
-- ==== Proof.Consts.lean ====
/-
  The constants both programs write as bit patterns, as extended reals.
-/
module

public import Idealize.ShloMosaic.Lib.Pointwise

@[expose] public section

noncomputable section

namespace Cert.Rounds

open Idealize.ShloMosaic

/-- The pattern of `+∞`. -/
theorem const_top : Ideal.ofBits .f32 2139095040#32 = ⊤ := by
  simp [Ideal.ofBits, Ideal.ieee]

/-- The pattern of `−∞`. -/
theorem const_bot : Ideal.ofBits .f32 4286578688#32 = ⊥ := by
  simp [Ideal.ofBits, Ideal.ieee]

/-- The pattern of `−1` is `−1`. -/
theorem const_neg : Ideal.ofBits .f32 3212836864#32 = ((-(1 : ℝ) : ℝ) : EReal) := by
  simp [Ideal.ofBits, Ideal.ieee, -EReal.coe_mul, -EReal.coe_neg]; norm_num

/-- The pattern of `−1` is at most zero. -/
theorem const_neg_le : Ideal.ofBits .f32 3212836864#32 ≤ 0 := by
  rw [const_neg]
  exact_mod_cast (by norm_num : (-1 : ℝ) ≤ 0)

/-- The pattern of `4`. -/
theorem const_four : Ideal.ofBits .f32 1082130432#32 = ((4 : ℝ) : EReal) := by
  simp [Ideal.ofBits, Ideal.ieee, -EReal.coe_mul]; norm_num

/-- The small constant under the square root is a nonnegative number. -/
theorem const_eps : ∃ r : ℝ, Ideal.ofBits .f32 730643660#32 = (r : EReal) ∧ 0 ≤ r := by
  simp only [Ideal.ofBits, Ideal.ieee]
  rw [if_neg (by decide), if_neg (by decide)]
  refine ⟨_, rfl, ?_⟩
  rw [if_neg (by decide)]
  positivity

end Cert.Rounds
-- ==== Proof.Cand.lean ====
/-
  The kernel's candidates read at an index: the threshold, the eight levels of 128 lanes and the two counts of a row are
  the plain functions of the row.
-/
module

public import proofs.«01_k».proof.Proof.Run
public import proofs.«01_k».proof.Proof.Levels
public import proofs.«01_k».proof.Proof.Consts

@[expose] public section

set_option maxRecDepth 16384

noncomputable section

namespace Cert.KernelIdeal.Hand

open Cert.KernelIdeal Cert.KernelIdeal.Gen Cert.Rounds
open Idealize.ShloMosaic

/-! ## A fold, by an invariant and as an iteration -/

/-- Induction over a loop: what holds at the start and is kept by every trip holds at the end. -/
theorem fold_ind {n : ℕ} {α : Type} (g : Fin n → α → α) (a : α) (P : ℕ → α → Prop) (h0 : P 0 a)
    (hs : ∀ (k : Fin n) b, P k b → P (k + 1) (g k b)) : P n (Scf.fold g a) := by
  rw [Scf.fold_eq]
  have key : ∀ (m : ℕ) (hm : m ≤ n) (b : α), P (n - m) b →
      P n (((List.finRange n).drop (n - m)).foldl (fun acc k => g k acc) b) := by
    intro m
    induction m with
    | zero =>
      intro _ b hb
      rw [List.drop_eq_nil_of_le (by simp)]
      simpa using hb
    | succ m ih =>
      intro hm b hb
      have hlt : n - (m + 1) < (List.finRange n).length := by simp; omega
      rw [List.drop_eq_getElem_cons hlt, List.foldl_cons, List.getElem_finRange]
      have e : n - (m + 1) + 1 = n - m := by omega
      rw [e]
      have := hs ⟨n - (m + 1), by omega⟩ b hb
      simp only [e] at this
      exact ih (by omega) _ this
  have := key n le_rfl a (by simpa using h0)
  simpa using this

/-! ## Levels, as operations on whole arrays -/

/-- The least value of every lane. -/
def vmin (x : FVec Ideal S64x157x128 .f32) : FVec Ideal S64x128 .f32 :=
  multiReduction .minimumf [1] S64x128 x 0x7F800000#32 reduces_S64x157x128_S64x128 (.inl rfl) rfl

/-- Where it is held. -/
def vfound (x : FVec Ideal S64x157x128 .f32) : IVec S64x157x128 1 :=
  cmpf .oeq x (broadcastTo S64x157x128 (shapeCast S64x1x128 (vmin x) shapeCasts_S64x128_S64x1x128) broadcasts_S64x1x128_S64x157x128)

/-- The least chunk number that holds it. -/
def vcst (x : FVec Ideal S64x157x128 .f32) : IVec S64x128 32 :=
  multiReductionI .minsi [1] S64x128 (select (vfound x) ioC (broadcast S64x157x128 1073741824#32)) 2147483647#32
    reduces_S64x157x128_S64x128 rfl

/-- Where the chunk number is that one. -/
def vhit (x : FVec Ideal S64x157x128 .f32) : IVec S64x157x128 1 :=
  cmpi .eq ioC (broadcastTo S64x157x128 (shapeCast S64x1x128 (vcst x) shapeCasts_S64x128_S64x1x128) broadcasts_S64x1x128_S64x157x128)

/-- The values after a level. -/
def vnext (x : FVec Ideal S64x157x128 .f32) : FVec Ideal S64x157x128 .f32 :=
  select (vhit x) (broadcast S64x157x128 (Scalar.ofBits .f32 0x7F800000#32 : Ideal .f32)) x

/-- The positions a level takes. -/
def vidx (x : FVec Ideal S64x157x128 .f32) : IVec S64x128 32 := addi (muli (vcst x) (broadcast S64x128 128#32)) ioL

/-- The overlaps a level takes. -/
def vatt (u x : FVec Ideal S64x157x128 .f32) : FVec Ideal S64x128 .f32 :=
  multiReduction .maximumf [1] S64x128 (select (vhit x) u (broadcast S64x157x128 (Scalar.ofBits .f32 0xBF800000#32 : Ideal .f32)))
    0xFF800000#32 reduces_S64x157x128_S64x128 (.inl rfl) rfl

/-- The values before level `k`. -/
def vlev (d : FVec Ideal S64x20096 .f32) (t : FVec Ideal S64x1 .f32) : ℕ → FVec Ideal S64x157x128 .f32
  | 0 => k0_pay54 d t
  | k + 1 => vnext (vlev d t k)

variable (d : FVec Ideal S64x20096 .f32) (t : FVec Ideal S64x1 .f32)

/-! The body's own names for the levels' pieces are these operations. -/

section
variable (x u : FVec Ideal S64x157x128 .f32)

theorem e55 : k0_pay55 d t = vmin (k0_pay54 d t) := rfl
theorem e56 : k0_pay56 d t = vcst (k0_pay54 d t) := rfl
theorem e57 : k0_pay57 d t = vhit (k0_pay54 d t) := by unfold k0_pay57; rw [e56]; rfl
theorem e58 (a b : FVec Ideal S64x20096 .f32) (p : IVec S64x20096 1) : k0_pay58 d a b p t = vatt (k0_pay48 a b p) (k0_pay54 d t) := by
  unfold k0_pay58; rw [e57]; rfl
theorem e59 : k0_pay59 d t = vnext (k0_pay54 d t) := by unfold k0_pay59; rw [e57]; rfl
theorem e60 : k0_pay60 d t = vidx (k0_pay54 d t) := by unfold k0_pay60; rw [e56]; rfl
theorem e61 : k0_pay61 d t = vmin (vnext (k0_pay54 d t)) := by unfold k0_pay61; rw [e59]; rfl
theorem e62 : k0_pay62 d t = vfound (vnext (k0_pay54 d t)) := by unfold k0_pay62; rw [e59, e61]; rfl
theorem e63 : k0_pay63 ioC (vfound x) = vcst x := rfl
theorem e64 : k0_pay64 ioC (vfound x) = vhit x := by unfold k0_pay64; rw [e63]; rfl
theorem e65 : k0_pay65 u ioC (vfound x) = vatt u x := by unfold k0_pay65; rw [e64]; rfl
theorem e66 : k0_pay66 ioC x (vfound x) = vnext x := by unfold k0_pay66; rw [e64]; rfl
theorem e67 : k0_pay67 ioC ioL (vfound x) = vidx x := by unfold k0_pay67; rw [e63]; rfl
theorem e68 : k0_pay68 ioC x (vfound x) = vmin (vnext x) := by unfold k0_pay68; rw [e66]; rfl
theorem e69 : k0_pay69 ioC x (vfound x) = vcst (vnext x) := by unfold k0_pay69; rw [e66, e68]; rfl
theorem e70 : k0_pay70 ioC x (vfound x) = vhit (vnext x) := by unfold k0_pay70; rw [e69]; rfl
theorem e71 : k0_pay71 u ioC x (vfound x) = vatt u (vnext x) := by unfold k0_pay71; rw [e70]; rfl
theorem e72 : k0_pay72 ioC x (vfound x) = vnext (vnext x) := by unfold k0_pay72; rw [e70, e66]; rfl
theorem e73 : k0_pay73 ioC ioL x (vfound x) = vidx (vnext x) := by unfold k0_pay73; rw [e69]; rfl
theorem e74 : k0_pay74 ioC x (vfound x) = vmin (vnext (vnext x)) := by unfold k0_pay74; rw [e72]; rfl
theorem e75 : k0_pay75 ioC x (vfound x) = vcst (vnext (vnext x)) := by unfold k0_pay75; rw [e74, e72]; rfl
theorem e76 : k0_pay76 ioC x (vfound x) = vhit (vnext (vnext x)) := by unfold k0_pay76; rw [e75]; rfl
theorem e78 : k0_pay78 u (vhit x) k0_pay77 = vatt u x := rfl
theorem e79 : k0_pay79 x (vhit x) = vnext x := rfl
theorem e80 : k0_pay80 ioL (vcst x) = vidx x := rfl
theorem e81 : k0_pay81 x (vhit x) = vmin (vnext x) := by unfold k0_pay81; rw [e79]; rfl
theorem e82 : k0_pay82 ioC x (vhit x) = vcst (vnext x) := by unfold k0_pay82; rw [e79, e81]; rfl
theorem e83 : k0_pay83 ioC x (vhit x) = vhit (vnext x) := by unfold k0_pay83; rw [e82]; rfl
theorem e84 : k0_pay84 u ioC x (vhit x) = vatt u (vnext x) := by unfold k0_pay84; rw [e83]; rfl
theorem e85 : k0_pay85 ioC x (vhit x) = vnext (vnext x) := by unfold k0_pay85; rw [e83, e79]; rfl
theorem e86 : k0_pay86 ioC ioL x (vhit x) = vidx (vnext x) := by unfold k0_pay86; rw [e82]; rfl
theorem e87 : k0_pay87 ioC x (vhit x) = vmin (vnext (vnext x)) := by unfold k0_pay87; rw [e85]; rfl
theorem e88 : k0_pay88 ioC x (vhit x) = vcst (vnext (vnext x)) := by unfold k0_pay88; rw [e85, e87]; rfl
theorem e89 : k0_pay89 ioC x (vhit x) = vhit (vnext (vnext x)) := by unfold k0_pay89; rw [e88]; rfl
theorem e90 : k0_pay90 u ioC x (vhit x) = vatt u (vnext (vnext x)) := by unfold k0_pay90; rw [e89]; rfl
theorem e91 : k0_pay91 ioC x (vhit x) = vnext (vnext (vnext x)) := by unfold k0_pay91; rw [e89, e85]; rfl
theorem e92 : k0_pay92 ioC ioL x (vhit x) = vidx (vnext (vnext x)) := by unfold k0_pay92; rw [e88]; rfl
theorem e93 : k0_pay93 x = vmin x := rfl
theorem e94 : k0_pay94 ioC x = vcst x := by unfold k0_pay94; rw [e93]; rfl
theorem e95 : k0_pay95 ioC x = vhit x := by unfold k0_pay95; rw [e94]; rfl
theorem e96 : k0_pay96 ioC x = vnext x := by unfold k0_pay96; rw [e95]; rfl
theorem e97 : k0_pay97 ioC x = vmin (vnext x) := by unfold k0_pay97; rw [e96]; rfl
theorem e98 : k0_pay98 ioC x = vcst (vnext x) := by unfold k0_pay98; rw [e96, e97]; rfl
end

/-- Before the first level: the values under the threshold. -/
theorem vlev_zero : vlev d t 0 = k0_pay54 d t := rfl
/-- One level further. -/
theorem vlev_succ (k : ℕ) : vlev d t (k + 1) = vnext (vlev d t k) := rfl

/-- Where the second level's least values are held. -/
theorem hit2_eq : hit2 d t = vfound (vnext (k0_pay54 d t)) := by rw [← e62]
/-- The values after one level. -/
theorem wk1_eq : wk1 d t = vnext (k0_pay54 d t) := by rw [← e59]
/-- The values after three levels. -/
theorem wk3_eq : wk3 d t = vnext (vnext (vnext (k0_pay54 d t))) := by unfold wk3; rw [wk1_eq, hit2_eq, e72]
/-- The fourth level's chunk numbers. -/
theorem cst4_eq : cst4 d t = vcst (vnext (vnext (vnext (k0_pay54 d t)))) := by unfold cst4; rw [wk1_eq, hit2_eq, e75]
/-- Where the fourth level takes. -/
theorem hit4_eq : hit4 d t = vhit (vnext (vnext (vnext (k0_pay54 d t)))) := by unfold hit4; rw [wk1_eq, hit2_eq, e76]
/-- The values after six levels. -/
theorem wk6_eq : wk6 d t = vnext (vnext (vnext (vnext (vnext (vnext (k0_pay54 d t)))))) := by unfold wk6; rw [wk3_eq, hit4_eq, e91]

/-- The candidates' values: the eight levels' least values, side by side. -/
theorem candVal_eq : candVal d t = concatenate S64x1024 1 [⟨S64x128, vmin (vlev d t 0)⟩, ⟨S64x128, vmin (vlev d t 1)⟩,
    ⟨S64x128, vmin (vlev d t 2)⟩, ⟨S64x128, vmin (vlev d t 3)⟩, ⟨S64x128, vmin (vlev d t 4)⟩, ⟨S64x128, vmin (vlev d t 5)⟩,
    ⟨S64x128, vmin (vlev d t 6)⟩, ⟨S64x128, vmin (vlev d t 7)⟩]
      concatenates_S64x128_S64x128_S64x128_S64x128_S64x128_S64x128_S64x128_S64x128_S64x1024_d1 := by
  simp only [vlev_succ, vlev_zero]
  unfold candVal k0_pay99
  rw [wk1_eq, hit2_eq, wk3_eq, hit4_eq, wk6_eq, e55, e61, e68, e74, e81, e87, e93, e97]

/-- The candidates' positions: the eight levels' positions, side by side. -/
theorem candIdx_eq : candIdx d t = concatenate S64x1024 1 [⟨S64x128, vidx (vlev d t 0)⟩, ⟨S64x128, vidx (vlev d t 1)⟩,
    ⟨S64x128, vidx (vlev d t 2)⟩, ⟨S64x128, vidx (vlev d t 3)⟩, ⟨S64x128, vidx (vlev d t 4)⟩, ⟨S64x128, vidx (vlev d t 5)⟩,
    ⟨S64x128, vidx (vlev d t 6)⟩, ⟨S64x128, vidx (vlev d t 7)⟩]
      concatenates_S64x128_S64x128_S64x128_S64x128_S64x128_S64x128_S64x128_S64x128_S64x1024_d1 := by
  simp only [vlev_succ, vlev_zero]
  unfold candIdx k0_pay100
  rw [wk1_eq, hit2_eq, wk3_eq, hit4_eq, wk6_eq, cst4_eq, e60, e67, e73, e80, e86, e92, e94, e98]
  rfl

/-- The candidates' overlaps: the eight levels' overlaps, side by side. -/
theorem candIou_eq (a b : FVec Ideal S64x20096 .f32) (p : IVec S64x20096 1) : candIou d a b p t =
    concatenate S64x1024 1 [⟨S64x128, vatt (k0_pay48 a b p) (vlev d t 0)⟩, ⟨S64x128, vatt (k0_pay48 a b p) (vlev d t 1)⟩,
    ⟨S64x128, vatt (k0_pay48 a b p) (vlev d t 2)⟩, ⟨S64x128, vatt (k0_pay48 a b p) (vlev d t 3)⟩,
    ⟨S64x128, vatt (k0_pay48 a b p) (vlev d t 4)⟩, ⟨S64x128, vatt (k0_pay48 a b p) (vlev d t 5)⟩,
    ⟨S64x128, vatt (k0_pay48 a b p) (vlev d t 6)⟩, ⟨S64x128, vatt (k0_pay48 a b p) (vlev d t 7)⟩]
      concatenates_S64x128_S64x128_S64x128_S64x128_S64x128_S64x128_S64x128_S64x128_S64x1024_d1 := by
  simp only [vlev_succ, vlev_zero]
  unfold candIou k0_pay101
  rw [wk1_eq, hit2_eq, wk3_eq, hit4_eq, wk6_eq, e58, e65, e71, e78, e84, e90, e95, e98]
  rfl

/-! ## Read at an index -/

/-- A selection on an equality of words. -/
theorem select_eq {α : Type} (a b : BitVec 32) (x y : α) : Scalar.select (IntOp.cmpi .eq a b) x y = if a = b then x else y := by
  unfold Scalar.select IntOp.cmpi
  by_cases h : a = b
  · simp [h]
  · have hb : (a == b) = false := by simpa using h
    have : BitVec.ofBool (a == b) ≠ 1#1 := by rw [hb]; decide
    rw [if_neg h]; exact if_neg this

/-- A level's least values, lane by lane. -/
theorem vmin_read (x : FVec Ideal S64x157x128 .f32) (g : Fin 64) (l : Fin 128) : vmin x (ix2 g l) = rmin fun c => x (ix3 g c l) := by
  pointwise [vmin]
  rw [const_top]; rfl

/-- A level's chunk numbers, lane by lane. -/
theorem vcst_read (x : FVec Ideal S64x157x128 .f32) (g : Fin 64) (l : Fin 128) :
    vcst x (ix2 g l) = ridx cw fun c => x (ix3 g c l) := by
  pointwise [vcst, vfound, vmin_read]
  refine congrArg (fun f => Finset.fold IntOp.minsi 2147483647#32 f Finset.univ) (funext fun c => ?_)
  exact if_congr Iff.rfl rfl rfl

/-- The values after a level, lane by lane. -/
theorem vnext_read (x : FVec Ideal S64x157x128 .f32) (g : Fin 64) (c : Fin 157) (l : Fin 128) :
    vnext x (ix3 g c l) = lnext (fun c => x (ix3 g c l)) c := by
  pointwise [vnext, vhit, vcst_read]
  rw [const_top, select_eq]
  exact if_congr Iff.rfl rfl rfl

/-- A level's overlaps, lane by lane. -/
theorem vatt_read (u x : FVec Ideal S64x157x128 .f32) (g : Fin 64) (l : Fin 128) :
    vatt u x (ix2 g l) = latt (Ideal.ofBits .f32 3212836864#32) (fun c => u (ix3 g c l)) (fun c => x (ix3 g c l)) := by
  pointwise [vatt, vhit, vcst_read]
  rw [const_bot]
  refine congrArg (fun f => Finset.fold max ⊥ f Finset.univ) (funext fun c => ?_)
  rw [select_eq]
  exact if_congr Iff.rfl rfl rfl

/-- A level's positions, lane by lane. -/
theorem vidx_read (x : FVec Ideal S64x157x128 .f32) (g : Fin 64) (l : Fin 128) :
    vidx x (ix2 g l) = ridx cw (fun c => x (ix3 g c l)) * 128#32 + BitVec.ofNat 32 l := by
  pointwise [vidx, vcst_read]
  rfl

end Cert.KernelIdeal.Hand
-- ==== Proof.Fast.lean ====
/-
  The kernel's threshold, candidates and counts of a row, read at an index.
-/
module

public import proofs.«01_k».proof.Proof.Cand

@[expose] public section

set_option maxRecDepth 16384

noncomputable section

namespace Cert.KernelIdeal.Hand

open Cert.KernelIdeal Cert.KernelIdeal.Gen Cert.Rounds
open Idealize.ShloMosaic

variable (d : FVec Ideal S64x20096 .f32) (t : FVec Ideal S64x1 .f32)

/-! ## The candidates of a row -/

/-- The distances as chunks and lanes. -/
theorem pay47_read (g : Fin 64) (c : Fin 157) (l : Fin 128) : k0_pay47 d (ix3 g c l) = d (ix2 g (at2 c l)) := by
  pointwise [k0_pay47]
  rfl

/-- The distances under the threshold, the others infinite. -/
theorem pay54_read (g : Fin 64) (c : Fin 157) (l : Fin 128) :
    k0_pay54 d t (ix3 g c l) = lane0 (fun n => d (ix2 g n)) (t (ix2 g 0)) l c := by
  pointwise [k0_pay54, pay47_read, k0_pay53]
  rw [const_top]
  exact if_congr Iff.rfl rfl rfl

/-- The values before a level, lane by lane. -/
theorem vlev_read (g : Fin 64) (k : ℕ) (c : Fin 157) (l : Fin 128) :
    vlev d t k (ix3 g c l) = lane (fun n => d (ix2 g n)) (t (ix2 g 0)) k l c := by
  induction k generalizing c with
  | zero => exact pay54_read d t g c l
  | succ k ih =>
    rw [vlev_succ, vnext_read]
    simp only [ih]
    unfold lane
    rw [Function.iterate_succ_apply']

/-- Eight pieces side by side, read as one: the candidate's level and lane. -/
theorem ladder {α : Type} (f : ℕ → Fin 128 → α) (c : Fin 1024) :
    (if h : (c : ℕ) < 128 then f 0 ⟨c, h⟩
    else if h : (c : ℕ) - 128 < 128 then f 1 ⟨c - 128, h⟩
    else if h : (c : ℕ) - 128 - 128 < 128 then f 2 ⟨c - 128 - 128, h⟩
    else if h : (c : ℕ) - 128 - 128 - 128 < 128 then f 3 ⟨c - 128 - 128 - 128, h⟩
    else if h : (c : ℕ) - 128 - 128 - 128 - 128 < 128 then f 4 ⟨c - 128 - 128 - 128 - 128, h⟩
    else if h : (c : ℕ) - 128 - 128 - 128 - 128 - 128 < 128 then f 5 ⟨c - 128 - 128 - 128 - 128 - 128, h⟩
    else if h : (c : ℕ) - 128 - 128 - 128 - 128 - 128 - 128 < 128 then f 6 ⟨c - 128 - 128 - 128 - 128 - 128 - 128, h⟩
    else f 7 ⟨c - 128 - 128 - 128 - 128 - 128 - 128 - 128, by omega⟩) = f (c / 128) (cl c) := by
  have key : ∀ (q : ℕ) (l : Fin 128), (c : ℕ) = q * 128 + l → f q l = f (c / 128) (cl c) := fun q l h => by
    have e1 : q = c / 128 := by omega
    have e2 : l = cl c := by apply Fin.ext; simp only [cl]; omega
    rw [e1, e2]
  split_ifs <;> (apply key; simp only; omega)

/-- A candidate's value. -/
theorem candVal_read (g : Fin 64) (c : Fin 1024) :
    candVal d t (ix2 g c) = cval (fun n => d (ix2 g n)) (t (ix2 g 0)) c := by
  rw [candVal_eq]
  pointwise []
  refine (ladder (fun k l => vmin (vlev d t k) (ix2 g l)) c).trans ?_
  rw [vmin_read]
  simp only [vlev_read]
  rfl

/-- A candidate's position. -/
theorem candIdx_read (g : Fin 64) (c : Fin 1024) :
    candIdx d t (ix2 g c) = cidx (fun n => d (ix2 g n)) (t (ix2 g 0)) c := by
  rw [candIdx_eq]
  pointwise []
  refine (ladder (fun k l => vidx (vlev d t k) (ix2 g l)) c).trans ?_
  rw [vidx_read]
  simp only [vlev_read]
  rfl

/-- The overlaps as chunks and lanes. -/
theorem pay48_read (a b : FVec Ideal S64x20096 .f32) (p : IVec S64x20096 1) (g : Fin 64) (c : Fin 157) (l : Fin 128) :
    k0_pay48 a b p (ix3 g c l) = k0_pay46 a b p (ix2 g (at2 c l)) := by
  pointwise [k0_pay48]
  rfl

/-- A candidate's overlap. -/
theorem candIou_read (a b : FVec Ideal S64x20096 .f32) (p : IVec S64x20096 1) (g : Fin 64) (c : Fin 1024) :
    candIou d a b p t (ix2 g c) = catt (fun n => d (ix2 g n)) (fun n => k0_pay46 a b p (ix2 g n)) (t (ix2 g 0))
      (Ideal.ofBits .f32 3212836864#32) c := by
  rw [candIou_eq]
  pointwise []
  refine (ladder (fun k l => vatt (k0_pay48 a b p) (vlev d t k) (ix2 g l)) c).trans ?_
  rw [vatt_read]
  simp only [vlev_read, pay48_read]
  rfl

/-! ## The threshold of a row -/

/-- The least distance of every chunk. -/
theorem pay49_read (g : Fin 64) (c : Fin 157) : k0_pay49 d (ix2 g c) = rmin fun l => d (ix2 g (at2 c l)) := by
  pointwise [k0_pay49, pay47_read]
  rw [const_top]
  rfl

/-- The least of the chunks' values in a round. -/
theorem pay51_read (x : FVec Ideal S64x157 .f32) (g : Fin 64) : k0_pay51 x (ix2 g 0) = rmin fun c => x (ix2 g c) := by
  pointwise [k0_pay51]
  rw [const_top]
  rfl

/-- The chunks' values after a round: those that held the least are infinite. -/
theorem pay52_read (x : FVec Ideal S64x157 .f32) (g : Fin 64) (c : Fin 157) :
    k0_pay52 x (ix2 g c) = if x (ix2 g c) = (rmin fun l => x (ix2 g l)) then ⊤ else x (ix2 g c) := by
  pointwise [k0_pay52, pay51_read]
  rw [const_top]

/-- The least values of a row's chunks. -/
def mins (r : Fin 20096 → EReal) : Fin 157 → EReal := fun c => rmin fun l => r (at2 c l)

/-- A chunk's least value is infinite or an entry of the row. -/
theorem mins_mem (r : Fin 20096 → EReal) (c : Fin 157) : mins r c = ⊤ ∨ ∃ n, mins r c = r n := by
  obtain ⟨l, hl, -⟩ := foldMin_mem fun l : Fin 128 => r (at2 c l)
  exact Or.inr ⟨at2 c l, hl⟩

/-- The threshold of a row. -/
def thr (r : Fin 20096 → EReal) : EReal := (tstep^[64] (mins r, 0)).2

/-- The threshold that the loop leaves is the row's threshold. -/
theorem tauOf_read (g : Fin 64) : tauOf d (ix2 g 0) = thr fun n => d (ix2 g n) := by
  have h := fold_ind (fun (_ : Fin k0_t1_loop.trips) (a : FVec Ideal S64x157 .f32 × FVec Ideal S64x1 .f32) =>
      (k0_pay52 a.1, k0_pay51 a.1)) (k0_pay49 d, k0_pay50)
    (fun k a => ((fun c => a.1 (ix2 g c), a.2 (ix2 g 0)) : (Fin 157 → EReal) × EReal) =
      tstep^[k] (mins fun n => d (ix2 g n), 0)) ?_ ?_
  · have e : k0_t1_loop.trips = 64 := by decide +kernel
    rw [e] at h
    exact congrArg Prod.snd h
  · have e0 : k0_pay50 (F := Ideal) (ix2 g 0) = 0 := by
      pointwise [k0_pay50]
    have e1 : (fun c => k0_pay49 d (ix2 g c)) = mins fun n => d (ix2 g n) := funext fun c => pay49_read d g c
    rw [Function.iterate_zero, id_eq, ← e1, ← e0]
  · intro k b hb
    rw [Function.iterate_succ_apply', ← hb]
    exact Prod.ext (funext fun c => pay52_read b.1 g c) (pay51_read b.1 g)

/-! ## The branch's bit -/

/-- The first count: the row's entries under the threshold. -/
theorem true_read (g : Fin 64) : trueCnt d t (ix1 g) = Finset.univ.fold IntOp.addi 0#32 (fun x : Fin 157 × Fin 128 =>
    BitVec.setWidth 32 (BitVec.ofBool (decide (d (ix2 g (at2 x.1 x.2)) ≤ t (ix2 g 0))))) := by
  pointwise [trueCnt, k0_pay102, pay47_read, k0_pay53]

/-- The second count, as one sum over the candidates. -/
theorem capCnt_eq : capCnt d t = multiReductionI .add [1] S64
    (extui 32 (cmpf .ole (candVal d t) (broadcastTo S64x1024 t broadcasts_S64x1_S64x1024)) natLt_1_32) 0#32 reduces_S64x1024_S64 rfl := rfl

/-- The second count: the row's candidates under the threshold. -/
theorem cap_read (g : Fin 64) : capCnt d t (ix1 g) = Finset.univ.fold IntOp.addi 0#32 (fun c : Fin 1024 =>
    BitVec.setWidth 32 (BitVec.ofBool (decide (cval (fun n => d (ix2 g n)) (t (ix2 g 0)) c ≤ t (ix2 g 0))))) := by
  rw [capCnt_eq]
  pointwise [candVal_read]

/-- Where the branch's bit is set, the two counts agree in every row. -/
theorem ok_read (x y : IVec S64 32) (h : okBit (F := Ideal) x y = 1#1) (g : Fin 64) : x (ix1 g) = y (ix1 g) := by
  by_contra hne
  have e : k0_pay1 (F := Ideal) x y ≤ 0 := by
    pointwise [k0_pay1]
    rw [Finset.fold_min_le]
    exact Or.inr ⟨g, Finset.mem_univ _, by rw [select_eq, if_neg hne]⟩
  have hb : Scalar.cmpf .ogt (k0_pay1 (F := Ideal) x y) (Scalar.ofBits .f32 0x00000000#32 : Ideal .f32) = 0#1 := by
    have z : (Scalar.ofBits .f32 0x00000000#32 : Ideal .f32) = (0 : EReal) := by
      show Ideal.ofBits .f32 0x00000000#32 = 0
      simp [Ideal.ofBits, Ideal.ieee]
    rw [z]
    show BitVec.ofBool (decide ((0 : EReal) < k0_pay1 (F := Ideal) x y)) = 0#1
    rw [decide_eq_false (not_lt.2 e)]
    rfl
  unfold okBit at h
  rw [hb] at h
  exact absurd h (by decide)

/-- Where the branch's bit is set, the candidates of every row hold the row's first places. -/
theorem cands (a b : FVec Ideal S64x20096 .f32) (p : IVec S64x20096 1)
    (hneg : ∀ g n, Ideal.ofBits .f32 3212836864#32 ≤ k0_pay46 a b p (ix2 g n))
    (h : okBit (F := Ideal) (trueCnt d (tauOf d)) (capCnt d (tauOf d)) = 1#1) (g : Fin 64) {σ : ℕ → Fin 20096}
    (hs : Sel (fun n => d (ix2 g n)) 64 σ) :
    Cands (fun n => d (ix2 g n)) (fun n => k0_pay46 a b p (ix2 g n)) 64 σ (fun c => candIdx d (tauOf d) (ix2 g c))
      (fun c => candIou d a b p (tauOf d) (ix2 g c)) (fun c => candVal d (tauOf d) (ix2 g c))
      (cpos (fun n => d (ix2 g n)) (tauOf d (ix2 g 0))) := by
  have hc := ok_read _ _ h g
  rw [true_read, cap_read] at hc
  obtain ⟨ht, hcard⟩ := count_words (fun n => d (ix2 g n)) _ hc
  simp only [candIdx_read, candIou_read, candVal_read]
  obtain ⟨T, hT, hd⟩ := tau_card (fun n => d (ix2 g n)) _ (mins_mem _) 64 (by rw [tauOf_read] at ht; exact ht)
  refine fast_cands _ _ _ hs ht (hneg g) T hT.ge (fun n hn => ?_) hcard
  rw [tauOf_read]
  exact hd n hn

end Cert.KernelIdeal.Hand
-- ==== Proof.Select.lean ====
/-
  The kernel's selection loops, row by row: the 64 rounds over the candidates, the 64 rounds over whole rows, and the nine
  rounds over the overlaps are the plain rounds of the rows.
-/
module

public import proofs.«01_k».proof.Proof.Fast

@[expose] public section

set_option maxRecDepth 16384

noncomputable section

namespace Cert.KernelIdeal.Hand

open Cert.KernelIdeal Cert.KernelIdeal.Gen Cert.Rounds
open Idealize.ShloMosaic

/-- Two conditions at once, the second an equality of words. -/
theorem both_eq (p : Prop) [Decidable p] (a b : BitVec 32) :
    (IntOp.andi (BitVec.ofBool (decide p)) (IntOp.cmpi .eq a b) = 1#1) ↔ p ∧ a = b := by
  unfold IntOp.andi IntOp.cmpi
  by_cases hp : p <;> by_cases h : a = b
  · subst h; simp [hp]
  · have hb : (a == b) = false := by simpa using h
    simp only [hp, h, hb]; decide
  · subst h; simp [hp]
  · have hb : (a == b) = false := by simpa using h
    simp only [hp, h, hb]; decide

/-- A choice on two conditions that are tested as bits. -/
theorem select_both {α : Type} (p : Prop) [Decidable p] (a b : BitVec 32) (x y : α) :
    Scalar.select (IntOp.andi (BitVec.ofBool (decide p)) (IntOp.cmpi .eq a b)) x y = if p ∧ a = b then x else y := by
  unfold Scalar.select
  exact if_congr (both_eq p a b) rfl rfl

/-- The number of a column equals the loop's index word. -/
theorem col_eq {n m : ℕ} (hn : n ≤ 2 ^ 30) (hm : m ≤ 2 ^ 30) (j : Fin m) (k : Fin n) :
    BitVec.ofNat 32 (j : ℕ) = Scf.iv 0#32 1#32 k ↔ (j : ℕ) = k := by
  have e : Scf.iv 0#32 1#32 k = BitVec.ofNat 32 (k : ℕ) := by
    simp [Scf.iv]
  rw [e]
  exact ⟨fun h => ofNat_inj (by omega) (by omega) h, fun h => by rw [h]⟩

/-! ## The rounds over the candidates -/

section
variable (ix : IVec S64x1024 32) (io v : FVec Ideal S64x1024 .f32)

/-- Fast path: the least value left. -/
theorem pay4_read (g : Fin 64) : k0_pay4 v (ix2 g 0) = rmin fun c => v (ix2 g c) := by
  pointwise [k0_pay4]
  rw [const_top]
  rfl

/-- Fast path: the least position that holds it. -/
theorem pay5_read (g : Fin 64) : k0_pay5 ix v (ix2 g 0) = ridx (fun c => ix (ix2 g c)) (fun c => v (ix2 g c)) := by
  pointwise [k0_pay5, pay4_read]
  rfl

/-- Fast path: the values after a round. -/
theorem pay7_read (g : Fin 64) (c : Fin 1024) : k0_pay7 ix v (ix2 g c) = rnext (fun c => ix (ix2 g c)) (fun c => v (ix2 g c)) c := by
  pointwise [k0_pay7, k0_pay6, pay4_read, pay5_read]
  rw [const_top, select_both]
  exact if_congr Iff.rfl rfl rfl

/-- Fast path: the round's position goes to the round's column. -/
theorem pay8_read (k : Fin k0_t2_loop.trips) (a : IVec S64x64 32) (g j : Fin 64) :
    k0_pay8 ix k v a (ix2 g j) = if (j : ℕ) = k then ridx (fun c => ix (ix2 g c)) (fun c => v (ix2 g c)) else a (ix2 g j) := by
  have hk : k0_t2_loop.trips ≤ 2 ^ 30 := by decide +kernel
  pointwise [k0_pay8, pay5_read]
  rw [select_eq]
  exact if_congr (col_eq hk (by norm_num) j k) rfl rfl

/-- Fast path: the round's overlap goes to the round's column. -/
theorem pay9_read (k : Fin k0_t2_loop.trips) (a : FVec Ideal S64x64 .f32) (g j : Fin 64) :
    k0_pay9 ix io k v a (ix2 g j) = if (j : ℕ) = k then riou (Ideal.ofBits .f32 3212836864#32) (fun c => ix (ix2 g c)) (fun c => io (ix2 g c)) (fun c => v (ix2 g c)) else a (ix2 g j) := by
  have hk : k0_t2_loop.trips ≤ 2 ^ 30 := by decide +kernel
  pointwise [k0_pay9, k0_pay6, pay4_read, pay5_read]
  rw [select_eq, const_bot]
  refine if_congr (col_eq hk (by norm_num) j k) ?_ rfl
  refine congrArg (fun f => Finset.fold max ⊥ f Finset.univ) (funext fun c => ?_)
  exact (select_both (v (ix2 g c) = rmin fun c => v (ix2 g c)) _ _ _ _).trans (if_congr Iff.rfl rfl rfl)

/-- What the 64 rounds leave in a row: round `j`'s word and attached number in column `j`. -/
theorem fastSel_rounds (g j : Fin 64) :
    (fastSel v ix io).1 (ix2 g j) = ridx (fun c => ix (ix2 g c)) ((rnext (fun c => ix (ix2 g c)))^[j] (fun c => v (ix2 g c))) ∧
      (fastSel v ix io).2 (ix2 g j) = riou (Ideal.ofBits .f32 3212836864#32) (fun c => ix (ix2 g c)) (fun c => io (ix2 g c)) ((rnext (fun c => ix (ix2 g c)))^[j] (fun c => v (ix2 g c))) := by
  have ht : k0_t2_loop.trips = 64 := by decide +kernel
  have h := fold_ind (fun (k : Fin k0_t2_loop.trips) (a : FVec Ideal S64x1024 .f32 × IVec S64x64 32 × FVec Ideal S64x64 .f32) =>
      (k0_pay7 ix a.1, k0_pay8 ix k a.1 a.2.1, k0_pay9 ix io k a.1 a.2.2)) (v, k0_pay2, k0_pay3)
    (fun k a => (fun c => a.1 (ix2 g c)) = (rnext (fun c => ix (ix2 g c)))^[k] (fun c => v (ix2 g c)) ∧ ∀ j : Fin 64, (j : ℕ) < k →
      a.2.1 (ix2 g j) = ridx (fun c => ix (ix2 g c)) ((rnext (fun c => ix (ix2 g c)))^[j] (fun c => v (ix2 g c))) ∧
      a.2.2 (ix2 g j) = riou (Ideal.ofBits .f32 3212836864#32) (fun c => ix (ix2 g c)) (fun c => io (ix2 g c)) ((rnext (fun c => ix (ix2 g c)))^[j] (fun c => v (ix2 g c)))) ?_ ?_
  · exact h.2 j (by rw [ht]; exact j.2)
  · exact ⟨rfl, fun j hj => absurd hj (Nat.not_lt_zero _)⟩
  · intro k b hb
    refine ⟨?_, fun j hj => ?_⟩
    · rw [Function.iterate_succ_apply', ← hb.1]
      exact funext fun c => pay7_read ix b.1 g c
    · dsimp only
      rw [pay8_read, pay9_read, hb.1]
      by_cases e : (j : ℕ) = k
      · rw [if_pos e, if_pos e, e]
        exact ⟨rfl, rfl⟩
      · rw [if_neg e, if_neg e]
        exact hb.2 j (by omega)

end

/-! ## The rounds over whole rows -/

section
variable (io v : FVec Ideal S64x20096 .f32)

/-- Slow path: the least value left. -/
theorem pay12_read (g : Fin 64) : k0_pay12 v (ix2 g 0) = rmin fun c => v (ix2 g c) := by
  pointwise [k0_pay12]
  rw [const_top]
  rfl

/-- Slow path: the least position that holds it. -/
theorem pay13_read (g : Fin 64) : k0_pay13 v (ix2 g 0) = ridx (fun c : Fin 20096 => BitVec.ofNat 32 (c : ℕ)) (fun c => v (ix2 g c)) := by
  pointwise [k0_pay13, pay12_read]
  rfl

/-- Slow path: the values after a round. -/
theorem pay15_read (g : Fin 64) (c : Fin 20096) : k0_pay15 v (ix2 g c) = rnext (fun c : Fin 20096 => BitVec.ofNat 32 (c : ℕ)) (fun c => v (ix2 g c)) c := by
  pointwise [k0_pay15, k0_pay14, pay12_read, pay13_read]
  rw [const_top, select_both]
  exact if_congr Iff.rfl rfl rfl

/-- Slow path: the round's position goes to the round's column. -/
theorem pay16_read (k : Fin k0_t3_loop.trips) (a : IVec S64x64 32) (g j : Fin 64) :
    k0_pay16 k v a (ix2 g j) = if (j : ℕ) = k then ridx (fun c : Fin 20096 => BitVec.ofNat 32 (c : ℕ)) (fun c => v (ix2 g c)) else a (ix2 g j) := by
  have hk : k0_t3_loop.trips ≤ 2 ^ 30 := by decide +kernel
  pointwise [k0_pay16, pay13_read]
  rw [select_eq]
  exact if_congr (col_eq hk (by norm_num) j k) rfl rfl

/-- Slow path: the round's overlap goes to the round's column. -/
theorem pay17_read (k : Fin k0_t3_loop.trips) (a : FVec Ideal S64x64 .f32) (g j : Fin 64) :
    k0_pay17 io k v a (ix2 g j) = if (j : ℕ) = k then riou (Ideal.ofBits .f32 3212836864#32) (fun c : Fin 20096 => BitVec.ofNat 32 (c : ℕ)) (fun c => io (ix2 g c)) (fun c => v (ix2 g c)) else a (ix2 g j) := by
  have hk : k0_t3_loop.trips ≤ 2 ^ 30 := by decide +kernel
  pointwise [k0_pay17, k0_pay14, pay12_read, pay13_read]
  rw [select_eq, const_bot]
  refine if_congr (col_eq hk (by norm_num) j k) ?_ rfl
  refine congrArg (fun f => Finset.fold max ⊥ f Finset.univ) (funext fun c => ?_)
  exact (select_both (v (ix2 g c) = rmin fun c => v (ix2 g c)) _ _ _ _).trans (if_congr Iff.rfl rfl rfl)

/-- What the 64 rounds leave in a row: round `j`'s word and attached number in column `j`. -/
theorem slowSel_rounds (g j : Fin 64) :
    (slowSel v io).1 (ix2 g j) = ridx (fun c : Fin 20096 => BitVec.ofNat 32 (c : ℕ)) ((rnext (fun c : Fin 20096 => BitVec.ofNat 32 (c : ℕ)))^[j] (fun c => v (ix2 g c))) ∧
      (slowSel v io).2 (ix2 g j) = riou (Ideal.ofBits .f32 3212836864#32) (fun c : Fin 20096 => BitVec.ofNat 32 (c : ℕ)) (fun c => io (ix2 g c)) ((rnext (fun c : Fin 20096 => BitVec.ofNat 32 (c : ℕ)))^[j] (fun c => v (ix2 g c))) := by
  have ht : k0_t3_loop.trips = 64 := by decide +kernel
  have h := fold_ind (fun (k : Fin k0_t3_loop.trips) (a : FVec Ideal S64x20096 .f32 × IVec S64x64 32 × FVec Ideal S64x64 .f32) =>
      (k0_pay15 a.1, k0_pay16 k a.1 a.2.1, k0_pay17 io k a.1 a.2.2)) (v, k0_pay10, k0_pay11)
    (fun k a => (fun c => a.1 (ix2 g c)) = (rnext (fun c : Fin 20096 => BitVec.ofNat 32 (c : ℕ)))^[k] (fun c => v (ix2 g c)) ∧ ∀ j : Fin 64, (j : ℕ) < k →
      a.2.1 (ix2 g j) = ridx (fun c : Fin 20096 => BitVec.ofNat 32 (c : ℕ)) ((rnext (fun c : Fin 20096 => BitVec.ofNat 32 (c : ℕ)))^[j] (fun c => v (ix2 g c))) ∧
      a.2.2 (ix2 g j) = riou (Ideal.ofBits .f32 3212836864#32) (fun c : Fin 20096 => BitVec.ofNat 32 (c : ℕ)) (fun c => io (ix2 g c)) ((rnext (fun c : Fin 20096 => BitVec.ofNat 32 (c : ℕ)))^[j] (fun c => v (ix2 g c)))) ?_ ?_
  · exact h.2 j (by rw [ht]; exact j.2)
  · exact ⟨rfl, fun j hj => absurd hj (Nat.not_lt_zero _)⟩
  · intro k b hb
    refine ⟨?_, fun j hj => ?_⟩
    · rw [Function.iterate_succ_apply', ← hb.1]
      exact funext fun c => pay15_read b.1 g c
    · dsimp only
      rw [pay16_read, pay17_read, hb.1]
      by_cases e : (j : ℕ) = k
      · rw [if_pos e, if_pos e, e]
        exact ⟨rfl, rfl⟩
      · rw [if_neg e, if_neg e]
        exact hb.2 j (by omega)

end

/-! ## The nine rounds over the overlaps -/

/-- Last loop: the place that the round takes. -/
theorem pay19_read (x : FVec Ideal S64x64 .f32) (g j : Fin 64) :
    k0_pay19 x (ix2 g j) = IntOp.cmpi .eq (BitVec.ofNat 32 (j : ℕ)) (xpos 64#32 fun c => x (ix2 g c)) := by
  pointwise [k0_pay19]
  rw [const_bot]
  rfl

/-- Last loop: the overlaps after a round. -/
theorem pay20_read (x : FVec Ideal S64x64 .f32) (g j : Fin 64) :
    k0_pay20 x (ix2 g j) = xnext 64#32 (fun c => x (ix2 g c)) j := by
  pointwise [k0_pay20, pay19_read]
  rw [select_eq, const_top]
  have e : (0 : EReal) - ⊤ = ⊥ := by simp
  rw [e]
  exact if_congr Iff.rfl rfl rfl

/-- Last loop: the round's position goes to the round's column. -/
theorem pay21_read (s : IVec S64x64 32) (k : Fin k0_t4_loop.trips) (x : FVec Ideal S64x64 .f32) (a : IVec S64x9 32)
    (g : Fin 64) (j : Fin 9) :
    k0_pay21 s k x a (ix2 g j) = if (j : ℕ) = k then xout 64#32 (fun c => s (ix2 g c)) (fun c => x (ix2 g c)) else a (ix2 g j) := by
  have hk : k0_t4_loop.trips ≤ 2 ^ 30 := by decide +kernel
  pointwise [k0_pay21, pay19_read]
  rw [select_eq]
  refine if_congr (col_eq hk (by norm_num) j k) ?_ rfl
  refine congrArg (fun f => Finset.fold IntOp.addi 0#32 f Finset.univ) (funext fun c => ?_)
  rw [select_eq]

/-- A column of the last loop's result is the position of its round. -/
theorem nineSel_rounds (s : IVec S64x64 32 × FVec Ideal S64x64 .f32) (g : Fin 64) (j : Fin 9) :
    nineSel s (ix2 g j) = xout 64#32 (fun c => s.1 (ix2 g c)) ((xnext 64#32)^[j] fun c => s.2 (ix2 g c)) := by
  have ht : k0_t4_loop.trips = 9 := by decide +kernel
  have h := fold_ind (fun (k : Fin k0_t4_loop.trips) (a : FVec Ideal S64x64 .f32 × IVec S64x9 32) =>
      (k0_pay20 a.1, k0_pay21 s.1 k a.1 a.2)) (s.2, k0_pay18)
    (fun k a => (fun c => a.1 (ix2 g c)) = (xnext 64#32)^[k] (fun c => s.2 (ix2 g c)) ∧ ∀ j : Fin 9, (j : ℕ) < k →
      a.2 (ix2 g j) = xout 64#32 (fun c => s.1 (ix2 g c)) ((xnext 64#32)^[j] fun c => s.2 (ix2 g c))) ?_ ?_
  · exact h.2 j (by rw [ht]; exact j.2)
  · exact ⟨rfl, fun j hj => absurd hj (Nat.not_lt_zero _)⟩
  · intro k b hb
    refine ⟨?_, fun j hj => ?_⟩
    · rw [Function.iterate_succ_apply', ← hb.1]
      exact funext fun c => pay20_read b.1 g c
    · dsimp only
      rw [pay21_read, hb.1]
      by_cases e : (j : ℕ) = k
      · rw [if_pos e, e]
      · rw [if_neg e]
        exact hb.2 j (by omega)

/-- The stored block is the last loop's result. -/
theorem pay22_read (a : IVec S64x9 32) (g : Fin 64) (j : Fin 9) : k0_pay22 a (ix3 0 g j) = a (ix2 g j) := by
  pointwise [k0_pay22]

end Cert.KernelIdeal.Hand
-- ==== Proof.Row.lean ====
/-
  The row's result: whichever branch is taken, the nine positions the kernel writes are those of the nine greatest overlaps
  among the 64 boxes nearest to the row's box.
-/
module

public import proofs.«01_k».proof.Proof.Select

@[expose] public section

set_option maxRecDepth 16384

noncomputable section

namespace Cert.KernelIdeal.Hand

open Cert.KernelIdeal Cert.KernelIdeal.Gen Cert.Rounds
open Idealize.ShloMosaic

/-! ## The row's result -/

section
variable (d a b : FVec Ideal S64x20096 .f32) (p : IVec S64x20096 1)

/-- The rounds over the candidates, where the branch's bit is set. -/
theorem fast_read (hneg : ∀ g n, Ideal.ofBits .f32 3212836864#32 ≤ k0_pay46 a b p (ix2 g n)) (g : Fin 64)
    (h : okBit (F := Ideal) (trueCnt d (tauOf d)) (capCnt d (tauOf d)) = 1#1)
    {σ : ℕ → Fin 20096} (hs : Sel (fun n => d (ix2 g n)) 64 σ) (j : Fin 64) :
    (fastSel (candVal d (tauOf d)) (candIdx d (tauOf d)) (candIou d a b p (tauOf d))).1 (ix2 g j) = BitVec.ofNat 32 (σ j) ∧
      (fastSel (candVal d (tauOf d)) (candIdx d (tauOf d)) (candIou d a b p (tauOf d))).2 (ix2 g j) =
        k0_pay46 a b p (ix2 g (σ j)) := by
  have hr := rounds (by norm_num) hs (cands d a b p hneg h g hs) (hneg g) j.2
  have hf := fastSel_rounds (candIdx d (tauOf d)) (candIou d a b p (tauOf d)) (candVal d (tauOf d)) g j
  exact ⟨hf.1.trans hr.1, hf.2.trans hr.2⟩

/-- Every position is its own candidate. -/
theorem all_cands {N K : ℕ} (d e : Fin N → EReal) (hd : ∀ n, d n < ⊤) (σ : ℕ → Fin N) :
    Cands d e K σ (fun c : Fin N => BitVec.ofNat 32 (c : ℕ)) e d id :=
  ⟨fun _ _ => rfl, fun _ _ => rfl, fun _ _ => rfl, fun _ _ _ _ h => h, fun k _ => ⟨σ k, hd _, rfl⟩⟩

/-- The rounds over whole rows. -/
theorem slow_read (v : FVec Ideal S64x20096 .f32) (hneg : ∀ g n, Ideal.ofBits .f32 3212836864#32 ≤ v (ix2 g n)) (g : Fin 64)
    (hd : ∀ n, d (ix2 g n) < ⊤) {σ : ℕ → Fin 20096} (hs : Sel (fun n => d (ix2 g n)) 64 σ) (j : Fin 64) :
    (slowSel d v).1 (ix2 g j) = BitVec.ofNat 32 (σ j) ∧ (slowSel d v).2 (ix2 g j) = v (ix2 g (σ j)) := by
  have hr := rounds (by norm_num) hs (all_cands (fun n => d (ix2 g n)) (fun n => v (ix2 g n)) hd σ) (hneg g) j.2
  have hf := slowSel_rounds v d g j
  exact ⟨hf.1.trans hr.1, hf.2.trans hr.2⟩

/-- Either branch leaves, in a row, the positions of the 64 least distances in order and their overlaps. -/
theorem sel_read (hneg : ∀ g n, Ideal.ofBits .f32 3212836864#32 ≤ k0_pay46 a b p (ix2 g n)) (g : Fin 64)
    (hd : ∀ n, d (ix2 g n) < ⊤) {σ : ℕ → Fin 20096} (hs : Sel (fun n => d (ix2 g n)) 64 σ) (j : Fin 64) :
    (sel d a b p).1 (ix2 g j) = BitVec.ofNat 32 (σ j) ∧ (sel d a b p).2 (ix2 g j) = k0_pay46 a b p (ix2 g (σ j)) := by
  by_cases h : okBit (F := Ideal) (trueCnt d (tauOf d)) (capCnt d (tauOf d)) = 1#1
  · have e : sel d a b p = fastSel (candVal d (tauOf d)) (candIdx d (tauOf d)) (candIou d a b p (tauOf d)) := if_pos h
    rw [e]
    exact fast_read d a b p hneg g h hs j
  · have e : sel d a b p = slowSel d (k0_pay46 a b p) := if_neg h
    rw [e]
    exact slow_read d _ hneg g hd hs j

/-- The nine rounds then leave the positions of the nine greatest overlaps among them. -/
theorem nine_read (hneg : ∀ g n, 0 ≤ k0_pay46 a b p (ix2 g n)) (g : Fin 64)
    (hd : ∀ n, d (ix2 g n) < ⊤) {σ : ℕ → Fin 20096} (hs : Sel (fun n => d (ix2 g n)) 64 σ) {π : ℕ → Fin 64}
    (hp : Sel (fun j : Fin 64 => -k0_pay46 a b p (ix2 g (σ j))) 9 π) (r : Fin 9) :
    k0_pay22 (nineSel (sel d a b p)) (ix3 0 g r) = BitVec.ofNat 32 (σ (π r)) := by
  rw [pay22_read, nineSel_rounds]
  have h := sel_read d a b p (fun g n => const_neg_le.trans (hneg g n)) g hd hs
  simp only [(h _).1, (h _).2]
  refine xrounds (cap := 64#32) (by decide) (by norm_num) (fun c => ?_) hp _ r.2
  exact lt_of_lt_of_le (by simp) (hneg g (σ c))
end

end Cert.KernelIdeal.Hand
-- ==== Proof.Boxes.lean ====
/-
  Two boxes, each a centre and a size: their distance and their overlap, as plain formulas, and what holds of them.
-/
module

public import proofs.«01_k».proof.Proof.Consts

@[expose] public section

noncomputable section

namespace Cert.Boxes

open Idealize.ShloMosaic Cert.Rounds

/-- The distance of two boxes as points of four coordinates. -/
def dist (a b : Fin 4 → EReal) : EReal :=
  Ideal.sqrt ((a 0 - b 0) * (a 0 - b 0) + (a 1 - b 1) * (a 1 - b 1) + (a 2 - b 2) * (a 2 - b 2) + (a 3 - b 3) * (a 3 - b 3) +
    Ideal.ofBits .f32 730643660#32)

/-- A box's lower end along one axis, off its centre and its size. -/
def lo (x s : EReal) : EReal := x - Ideal.ofBits .f32 1056964608#32 * s
/-- Its upper end. -/
def hi (x s : EReal) : EReal := x + Ideal.ofBits .f32 1056964608#32 * s

/-- The area two boxes share. -/
def shared (a b : Fin 4 → EReal) : EReal :=
  max 0 (min (hi (a 0) (a 2)) (hi (b 0) (b 2)) - max (lo (a 0) (a 2)) (lo (b 0) (b 2))) *
    max 0 (min (hi (a 1) (a 3)) (hi (b 1) (b 3)) - max (lo (a 1) (a 3)) (lo (b 1) (b 3)))

/-- A box's area. -/
def area (a : Fin 4 → EReal) : EReal := (hi (a 0) (a 2) - lo (a 0) (a 2)) * (hi (a 1) (a 3) - lo (a 1) (a 3))

/-- The area two boxes cover. -/
def covered (a b : Fin 4 → EReal) : EReal := area a + area b - shared a b

/-- The overlap of two boxes: the area shared over the area covered. -/
def overlap (a b : Fin 4 → EReal) : EReal := if 0 < covered a b then Ideal.div (shared a b) (covered a b) else 0

/-- A shared area is not negative. -/
theorem shared_nonneg (a b : Fin 4 → EReal) : 0 ≤ shared a b := mul_nonneg (le_max_left _ _) (le_max_left _ _)

/-- An overlap is not negative. -/
theorem overlap_nonneg (a b : Fin 4 → EReal) : 0 ≤ overlap a b := by
  unfold overlap
  split_ifs with h
  · unfold Ideal.div
    rw [if_neg h.ne']
    exact mul_nonneg (shared_nonneg a b) (EReal.inv_nonneg_of_nonneg h.le)
  · exact le_rfl

/-- A box whose coordinates all lie in the unit interval. -/
def Unit (a : Fin 4 → EReal) : Prop := ∀ k, 0 ≤ a k ∧ a k ≤ 1

/-- The coordinates of a box inside the unit square are real numbers of the unit interval. -/
theorem Unit.real {a : Fin 4 → EReal} (h : Unit a) : ∃ r : Fin 4 → ℝ, (∀ k, a k = (r k : EReal)) ∧ ∀ k, 0 ≤ r k ∧ r k ≤ 1 := by
  have key : ∀ k, ∃ r : ℝ, a k = (r : EReal) ∧ 0 ≤ r ∧ r ≤ 1 := fun k => by
    have hk := h k
    induction e : a k with
    | bot => rw [e] at hk; exact absurd hk.1 (by simp)
    | top => rw [e] at hk; exact absurd hk.2 (not_le.2 (EReal.coe_lt_top 1))
    | coe r =>
      rw [e] at hk
      exact ⟨r, rfl, by exact_mod_cast hk.1, by exact_mod_cast hk.2⟩
  exact ⟨fun k => (key k).choose, fun k => (key k).choose_spec.1, fun k => (key k).choose_spec.2⟩

/-- The distance of two real boxes. -/
theorem dist_real (x y : Fin 4 → ℝ) {e : ℝ} (he : Ideal.ofBits .f32 730643660#32 = (e : EReal)) (h0 : 0 ≤ e) :
    dist (fun k => (x k : EReal)) (fun k => (y k : EReal)) = ((Real.sqrt ((x 0 - y 0) * (x 0 - y 0) + (x 1 - y 1) * (x 1 - y 1) +
      (x 2 - y 2) * (x 2 - y 2) + (x 3 - y 3) * (x 3 - y 3) + e) : ℝ) : EReal) := by
  unfold dist
  rw [he]
  have hs : (0 : ℝ) ≤ (x 0 - y 0) * (x 0 - y 0) + (x 1 - y 1) * (x 1 - y 1) +
      (x 2 - y 2) * (x 2 - y 2) + (x 3 - y 3) * (x 3 - y 3) + e := by
    have := mul_self_nonneg (x 0 - y 0)
    have := mul_self_nonneg (x 1 - y 1)
    have := mul_self_nonneg (x 2 - y 2)
    have := mul_self_nonneg (x 3 - y 3)
    linarith
  simp only [← EReal.coe_sub, ← EReal.coe_mul, ← EReal.coe_add]
  show (if _ then _ else _) = _
  exact if_neg (not_lt.2 hs)

/-- The box that fills up a row. -/
def far : Fin 4 → EReal := fun _ => Ideal.ofBits .f32 1082130432#32

/-- Two unit boxes lie nearer to each other than a unit box to the filling one. -/
theorem dist_lt_far {a b : Fin 4 → EReal} (ha : Unit a) (hb : Unit b) : dist a b < dist a far ∧ dist a far < ⊤ := by
  obtain ⟨x, hx, ux⟩ := ha.real
  obtain ⟨y, hy, uy⟩ := hb.real
  obtain ⟨e, he, h0⟩ := const_eps
  have hf : far = fun _ : Fin 4 => ((4 : ℝ) : EReal) := by unfold far; rw [const_four]
  rw [funext hx, funext hy, hf, dist_real x y he h0, dist_real x (fun _ => 4) he h0]
  refine ⟨EReal.coe_lt_coe_iff.2 (Real.sqrt_lt_sqrt ?_ ?_), EReal.coe_lt_top _⟩
  · have := mul_self_nonneg (x 0 - y 0)
    have := mul_self_nonneg (x 1 - y 1)
    have := mul_self_nonneg (x 2 - y 2)
    have := mul_self_nonneg (x 3 - y 3)
    linarith
  · have key : ∀ k, (x k - y k) * (x k - y k) < (x k - 4) * (x k - 4) := fun k => by
      have := ux k; have := uy k; nlinarith
    have := key 0; have := key 1; have := key 2; have := key 3
    linarith

end Cert.Boxes
-- ==== Proof.Blocks.lean ====
/-
  The distances and overlaps the kernel computes off its two blocks, read at an index.
-/
module

public import proofs.«01_k».proof.Proof.Row
public import proofs.«01_k».proof.Proof.Boxes

@[expose] public section

set_option maxRecDepth 16384

noncomputable section

namespace Cert.KernelIdeal.Hand

open Cert.Boxes Cert.KernelIdeal Cert.KernelIdeal.Gen Cert.Rounds
open Idealize.ShloMosaic

variable (v0 : Vec Ideal S1x4x20096 .f32) (v2 : Vec Ideal S1x64x4 .f32)

/-- The row's box. -/
def gbox (g : Fin 64) : Fin 4 → EReal := fun k => v2 (ix3 0 g k)
/-- The column's box. -/
def pbox (n : Fin 20096) : Fin 4 → EReal := fun k => v0 (ix3 0 k n)

/-- The first coordinate of every box of the first block. -/
theorem pay25_read (n : Fin 20096) : k0_pay25 v0 (ix2 0 n) = v0 (ix3 0 0 n) := by
  pointwise [k0_pay25, k0_pay23]

/-- The first coordinate of every box of the second block. -/
theorem pay29_read (g : Fin 64) : k0_pay29 v2 (ix2 g 0) = v2 (ix3 0 g 0) := by
  pointwise [k0_pay29, k0_pay24]

/-- The second coordinate of every box of the first block. -/
theorem pay26_read (n : Fin 20096) : k0_pay26 v0 (ix2 0 n) = v0 (ix3 0 1 n) := by
  pointwise [k0_pay26, k0_pay23]

/-- The second coordinate of every box of the second block. -/
theorem pay30_read (g : Fin 64) : k0_pay30 v2 (ix2 g 0) = v2 (ix3 0 g 1) := by
  pointwise [k0_pay30, k0_pay24]

/-- The third coordinate of every box of the first block. -/
theorem pay27_read (n : Fin 20096) : k0_pay27 v0 (ix2 0 n) = v0 (ix3 0 2 n) := by
  pointwise [k0_pay27, k0_pay23]

/-- The third coordinate of every box of the second block. -/
theorem pay31_read (g : Fin 64) : k0_pay31 v2 (ix2 g 0) = v2 (ix3 0 g 2) := by
  pointwise [k0_pay31, k0_pay24]

/-- The fourth coordinate of every box of the first block. -/
theorem pay28_read (n : Fin 20096) : k0_pay28 v0 (ix2 0 n) = v0 (ix3 0 3 n) := by
  pointwise [k0_pay28, k0_pay23]

/-- The fourth coordinate of every box of the second block. -/
theorem pay32_read (g : Fin 64) : k0_pay32 v2 (ix2 g 0) = v2 (ix3 0 g 3) := by
  pointwise [k0_pay32, k0_pay24]

/-- The kernel's distances are the boxes' distances. -/
theorem dist_read (g : Fin 64) (n : Fin 20096) : k0_pay33 v0 v2 (ix2 g n) = dist (gbox v2 g) (pbox v0 n) := by
  pointwise [k0_pay33, pay25_read, pay26_read, pay27_read, pay28_read, pay29_read, pay30_read, pay31_read, pay32_read]
  rfl

/-- The kernel's shared areas are the boxes' shared areas. -/
theorem inter_read (g : Fin 64) (n : Fin 20096) : inter v0 v2 (ix2 g n) = shared (gbox v2 g) (pbox v0 n) := by
  unfold inter
  pointwise [k0_pay43, k0_pay34, k0_pay35, k0_pay36, k0_pay37, k0_pay38, k0_pay39, k0_pay40, k0_pay41, k0_pay42, pay25_read, pay26_read, pay27_read, pay28_read, pay29_read, pay30_read, pay31_read, pay32_read]
  rfl

/-- The kernel's covered areas are the boxes' covered areas. -/
theorem union_read (g : Fin 64) (n : Fin 20096) : union v0 v2 (ix2 g n) = covered (gbox v2 g) (pbox v0 n) := by
  have h := inter_read v0 v2 g n
  unfold inter at h
  unfold union
  pointwise [k0_pay44]
  rw [h]
  pointwise [k0_pay34, k0_pay35, k0_pay36, k0_pay37, k0_pay38, k0_pay39, k0_pay40, k0_pay41, k0_pay42, pay25_read, pay26_read, pay27_read, pay28_read, pay29_read, pay30_read, pay31_read, pay32_read]
  rfl

/-- The kernel's bit says whether the covered area is positive. -/
theorem unionPos_read (g : Fin 64) (n : Fin 20096) :
    unionPos v0 v2 (ix2 g n) = BitVec.ofBool (decide (0 < covered (gbox v2 g) (pbox v0 n))) := by
  rw [← union_read]
  unfold unionPos
  pointwise [k0_pay45]
  rfl

/-- The kernel's overlaps are the boxes' overlaps. -/
theorem overlap_read (g : Fin 64) (n : Fin 20096) :
    k0_pay46 (inter v0 v2) (union v0 v2) (unionPos v0 v2) (ix2 g n) = overlap (gbox v2 g) (pbox v0 n) := by
  pointwise [k0_pay46, inter_read, union_read, unionPos_read]
  unfold overlap
  by_cases h : 0 < covered (gbox v2 g) (pbox v0 n)
  · simp only [if_pos h]
  · simp only [if_neg h]

end Cert.KernelIdeal.Hand
-- ==== Proof.Entry.lean ====
/-
  What a step of the kernel is given: the boxes in its two blocks are the arguments' boxes, the second argument's as they
  are and the first argument's followed by boxes far away; and boxes inside the unit square, read off the precondition.
-/
module

public import proofs.«01_k».proof.Proof.Run
public import proofs.«01_k».proof.Proof.Blocks
public import proofs.«01_k».proof.Proof.Gen.Pre_unit_boxes
public import Idealize.ShloMosaic.Lib.Pipeline.ValueKit
public import Idealize.ShloMosaic.Lib.ReduceAll
public import Idealize.ShloMosaic.Lib.Claim

@[expose] public section

set_option maxRecDepth 16384

noncomputable section

namespace Cert.Rounds

/-- A selection stays one when entries greater than every old entry are added behind. -/
theorem Sel.extend {N M K : ℕ} (h : N ≤ M) {d : Fin N → EReal} {e : Fin M → EReal} {f : EReal} {σ : ℕ → Fin N}
    (he : ∀ n, e (Fin.castLE h n) = d n) (hd : ∀ n, d n < f) (hf : ∀ n : Fin M, N ≤ n.1 → e n = f) (hs : Sel d K σ) :
    Sel e K (fun j => Fin.castLE h (σ j)) := by
  refine ⟨fun k hk j hj e => hs.1 k hk j hj (Fin.castLE_injective h e), fun k hk n hn => ?_⟩
  rcases Nat.lt_or_ge n.1 N with hlt | hge
  · obtain ⟨x, rfl⟩ : ∃ x : Fin N, Fin.castLE h x = n := ⟨⟨n.1, hlt⟩, rfl⟩
    rw [he, he]
    exact hs.2 k hk x fun j hj e => hn j hj (congrArg _ e)
  · left
    rw [he, hf n hge]
    exact hd _

end Cert.Rounds

namespace Cert.KernelIdeal.Hand

open Cert.Boxes Cert.KernelIdeal Cert.KernelIdeal.Gen Cert.Rounds
open Idealize.ShloMosaic Idealize.ShloMosaic.TcCoe

variable (m : (ℓ : Loc nD τ sig) → Buf (Elt Ideal) ℓ) (c : Dev nD)

/-- The first argument as launched. -/
def preds : Vec Ideal S8x20000x4 .f32 := m ((c : Thread nD τ).loc main_arg0)
/-- The second argument as launched. -/
def truths : Vec Ideal S8x64x4 .f32 := m ((c : Thread nD τ).loc main_arg1)

/-- The batch of a grid point. -/
def batch (t : Fin cfg0.N) : Fin 8 := ⟨t.1, N_0 ▸ t.2⟩

/-- Every window's block at a grid point is the point's batch. -/
theorem idx : ∀ t : Fin cfg0.N, win0_0.index t = ![t.1, 0, 0] ∧ win0_1.index t = ![t.1, 0, 0] ∧ win0_2.index t = ![t.1, 0, 0] :=
  (by decide +kernel : ∀ t : Fin grid0.N, _)

/-- The second block at a grid point is the batch's part of the second argument. -/
theorem truth_block (t : Fin cfg0.N) (g : Fin 64) (k : Fin 4) :
    (iblk m c 1 t : Vec Ideal S1x64x4 .f32) (ix3 0 g k) = truths m c (ix3 (batch t) g k) := by
  unfold truths batch
  blk_ext! [iblk, V, idx t]

/-- The first argument padded behind and with its last two axes exchanged, which is what the kernel is launched on. -/
theorem padded_eq : (V m c main_v1 : Vec Ideal S8x4x20096 .f32)
    = transpose S8x4x20096 [0, 2, 1] (pad S8x20096x4 ![0, 0, 0] ![0, 96, 0] ![0, 0, 0] (preds m c)
        (constant (F := Ideal) S_ .f32 1082130432#32) pads_S8x20000x4_S8x20096x4_000_0960_000 h_S_) transposes_S8x20096x4_S8x4x20096_0_2_1 := by
  simp only [V, V0, hostOps0, hostOps0_1, hostOps0_2, List.flatten_cons, List.flatten_nil, List.append_nil, List.cons_append, List.nil_append]
  entry_read
  rfl

/-- What the kernel is launched on, at an index: a coordinate of the first argument, or 4 behind its end. -/
theorem padded_read (b : Fin 8) (k : Fin 4) (n : Fin 20096) :
    (V m c main_v1 : Vec Ideal S8x4x20096 .f32) (ix3 b k n)
      = if h : n.1 < 20000 then preds m c (ix3 b ⟨n.1, h⟩ k) else Ideal.ofBits .f32 1082130432#32 := by
  rw [padded_eq]
  pointwise

/-- The first block at a grid point: the batch's part of the first argument, and 4 behind its end. -/
theorem pred_block (t : Fin cfg0.N) (k : Fin 4) (n : Fin 20096) :
    (iblk m c 0 t : Vec Ideal S1x4x20096 .f32) (ix3 0 k n)
      = if h : n.1 < 20000 then preds m c (ix3 (batch t) ⟨n.1, h⟩ k) else Ideal.ofBits .f32 1082130432#32 := by
  rw [← padded_read]
  unfold batch
  blk_ext! [iblk, idx t]

/-! ## The boxes of a step's blocks -/

/-- A box of the second block is a box of the second argument. -/
theorem gbox_block (t : Fin cfg0.N) (g : Fin 64) : gbox (iblk m c 1 t) g = fun k => truths m c (ix3 (batch t) g k) :=
  funext fun k => truth_block m c t g k

/-- A box of the first block is, below 20000, a box of the first argument. -/
theorem pbox_block (t : Fin cfg0.N) (n : Fin 20000) :
    pbox (iblk m c 0 t) (Fin.castLE (by norm_num) n) = fun k => preds m c (ix3 (batch t) n k) :=
  funext fun k => (pred_block m c t k _).trans (dif_pos n.2)

/-- A box of the first block is, from 20000 on, the box far away. -/
theorem pbox_far (t : Fin cfg0.N) (n : Fin 20096) (h : 20000 ≤ n.1) : pbox (iblk m c 0 t) n = far :=
  funext fun k => (pred_block m c t k n).trans (dif_neg (not_lt.2 h))

/-! ## The precondition -/

/-- The comparison with zero says that the value is not negative. -/
theorem ge_of_bit {x : EReal} (h : Ideal.cmp .oge x (Ideal.ofBits .f32 0#32) = 1#1) : 0 ≤ x := by
  rw [Ideal.ofBits_zero_f32] at h
  exact by_contra fun n => by simp [Ideal.cmp, n] at h

/-- The comparison with one says that the value is at most one. -/
theorem le_of_bit {x : EReal} (h : Ideal.cmp .ole x (Ideal.ofBits .f32 1065353216#32) = 1#1) : x ≤ 1 := by
  rw [Ideal.ofBits_one_f32] at h
  exact by_contra fun n => by simp [Ideal.cmp, n] at h

/-- The precondition says of every coordinate of every box that it lies in the unit interval. -/
theorem unit_of_pre (x : Vec Ideal S8x20000x4 .f32) (y : Vec Ideal S8x64x4 .f32)
    (h : Cert.Pre_unit_boxes.fn (F := Ideal) x y = fun _ => 1#1) : (∀ i, 0 ≤ x i ∧ x i ≤ 1) ∧ ∀ i, 0 ≤ y i ∧ y i ≤ 1 := by
  have e := congrFun h (fun a => a.elim0)
  dsimp only [Cert.Pre_unit_boxes.fn, andi] at e
  rw [IntOp.andi_eq_one, IntOp.andi_eq_one, IntOp.andi_eq_one] at e
  obtain ⟨⟨⟨e0, e1⟩, e2⟩, e3⟩ := e
  haveI : Subsingleton Cert.Pre_unit_boxes.S_.Idx := ⟨fun _ _ => funext fun a => a.elim0⟩
  exact ⟨fun i => ⟨ge_of_bit (Host.reduce_andi_all _ _ _ _ _ e0 i), le_of_bit (Host.reduce_andi_all _ _ _ _ _ e1 i)⟩,
    fun i => ⟨ge_of_bit (Host.reduce_andi_all _ _ _ _ _ e2 i), le_of_bit (Host.reduce_andi_all _ _ _ _ _ e3 i)⟩⟩

end Cert.KernelIdeal.Hand

end
-- ==== Proof.Gathers.lean ====
/-
  The reference's two gathers read at an index.
-/
module

public import proofs.«01_k».proof.Proof.Gen.ReferenceIdeal
public import Idealize.ShloMosaic.Lib.Pointwise

@[expose] public section

set_option maxRecDepth 16384

noncomputable section

namespace Cert.ReferenceIdeal.Hand

open Cert.ReferenceIdeal Cert.ReferenceIdeal.Gen
open Idealize.ShloMosaic

/-- The boxes taken: coordinate `k` of the box the index word names, the word read signed and held inside the rows. -/
theorem boxes_read {α : Type} (x : S8x20000x4.Idx → α) (idx : IVec S8x64x64x1 32) (b : Fin 8) (g j : Fin 64) (k : Fin 4) :
    Host.gather gather_S8x20000x4_S8x64x64x1_S8x64x64x4_3_1_0_0_1_3_114 x idx (ix4 b g j k) =
      x (ix3 b ⟨min (idx (ix4 b g j 0)).toInt.toNat 19999, by omega⟩ k) := by
  unfold Host.gather
  congr 1
  funext a
  refine Fin.ext ?_
  match a with
  | ⟨0, _⟩ =>
    show gather_S8x20000x4_S8x64x64x1_S8x64x64x4_3_1_0_0_1_3_114.start (ix4 b g j k) idx 0 + gather_S8x20000x4_S8x64x64x1_S8x64x64x4_3_1_0_0_1_3_114.batchCoord (ix4 b g j k) 0 + gather_S8x20000x4_S8x64x64x1_S8x64x64x4_3_1_0_0_1_3_114.offCoord (ix4 b g j k) 0 = _
    rw [GatherDims.start_batching _ _ _ _ (show (0 : Fin 3) ∈ gather_S8x20000x4_S8x64x64x1_S8x64x64x4_3_1_0_0_1_3_114.operandBatchingDims from (by decide)),
      GatherDims.offCoord_eq_zero _ _ _ (fun h => ((GatherDims.mem_sKept _ _).mp h).2 (by decide))]
    unfold GatherDims.batchCoord
    rw [dif_pos (show (0 : Fin 3) ∈ gather_S8x20000x4_S8x64x64x1_S8x64x64x4_3_1_0_0_1_3_114.operandBatchingDims from (by decide))]
    simp only [Nat.zero_add, Nat.add_zero]
    rfl
  | ⟨1, _⟩ =>
    show gather_S8x20000x4_S8x64x64x1_S8x64x64x4_3_1_0_0_1_3_114.start (ix4 b g j k) idx 1 + 0 + 0 = _
    unfold GatherDims.start
    rw [dif_pos (show (1 : Fin 3) ∈ gather_S8x20000x4_S8x64x64x1_S8x64x64x4_3_1_0_0_1_3_114.startIndexMap from List.mem_singleton.mpr rfl)]
    have hsi : gather_S8x20000x4_S8x64x64x1_S8x64x64x4_3_1_0_0_1_3_114.siIdx (ix4 b g j k) ⟨List.idxOf (1 : Fin 3) gather_S8x20000x4_S8x64x64x1_S8x64x64x4_3_1_0_0_1_3_114.startIndexMap,
        List.idxOf_lt_length_iff.2 (List.mem_singleton.mpr rfl)⟩ = ix4 b g j 0 := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    show gather_S8x20000x4_S8x64x64x1_S8x64x64x4_3_1_0_0_1_3_114.start (ix4 b g j k) idx 2 + gather_S8x20000x4_S8x64x64x1_S8x64x64x4_3_1_0_0_1_3_114.batchCoord (ix4 b g j k) 2 + gather_S8x20000x4_S8x64x64x1_S8x64x64x4_3_1_0_0_1_3_114.offCoord (ix4 b g j k) 2 = _
    rw [GatherDims.batchCoord_eq_zero _ _ _ (show (2 : Fin 3) ∉ gather_S8x20000x4_S8x64x64x1_S8x64x64x4_3_1_0_0_1_3_114.operandBatchingDims by decide)]
    unfold GatherDims.start
    rw [dif_neg (show (2 : Fin 3) ∉ gather_S8x20000x4_S8x64x64x1_S8x64x64x4_3_1_0_0_1_3_114.startIndexMap by decide)]
    simp only [Nat.zero_add, Nat.add_zero]
    rfl

/-- The positions taken: the one the index word names in its row, the word read signed and held inside the row. -/
theorem places_read {α : Type} (x : S8x64x64.Idx → α) (idx : IVec S8x64x9x1 32) (b : Fin 8) (g : Fin 64) (r : Fin 9) :
    Host.gather gather_S8x64x64_S8x64x9x1_S8x64x9_n_2_01_01_2_3_111 x idx (ix3 b g r) =
      x (ix3 b g ⟨min (idx (ix4 b g r 0)).toInt.toNat 63, by omega⟩) := by
  unfold Host.gather
  congr 1
  funext a
  refine Fin.ext ?_
  match a with
  | ⟨0, _⟩ =>
    show gather_S8x64x64_S8x64x9x1_S8x64x9_n_2_01_01_2_3_111.start (ix3 b g r) idx 0 + gather_S8x64x64_S8x64x9x1_S8x64x9_n_2_01_01_2_3_111.batchCoord (ix3 b g r) 0 + gather_S8x64x64_S8x64x9x1_S8x64x9_n_2_01_01_2_3_111.offCoord (ix3 b g r) 0 = _
    rw [GatherDims.start_batching _ _ _ _ (show (0 : Fin 3) ∈ gather_S8x64x64_S8x64x9x1_S8x64x9_n_2_01_01_2_3_111.operandBatchingDims from (by decide)),
      GatherDims.offCoord_eq_zero _ _ _ (fun h => ((GatherDims.mem_sKept _ _).mp h).2 (by decide))]
    unfold GatherDims.batchCoord
    rw [dif_pos (show (0 : Fin 3) ∈ gather_S8x64x64_S8x64x9x1_S8x64x9_n_2_01_01_2_3_111.operandBatchingDims from (by decide))]
    simp only [Nat.zero_add, Nat.add_zero]
    rfl
  | ⟨1, _⟩ =>
    show gather_S8x64x64_S8x64x9x1_S8x64x9_n_2_01_01_2_3_111.start (ix3 b g r) idx 1 + gather_S8x64x64_S8x64x9x1_S8x64x9_n_2_01_01_2_3_111.batchCoord (ix3 b g r) 1 + gather_S8x64x64_S8x64x9x1_S8x64x9_n_2_01_01_2_3_111.offCoord (ix3 b g r) 1 = _
    rw [GatherDims.start_batching _ _ _ _ (show (1 : Fin 3) ∈ gather_S8x64x64_S8x64x9x1_S8x64x9_n_2_01_01_2_3_111.operandBatchingDims from (by decide)),
      GatherDims.offCoord_eq_zero _ _ _ (fun h => ((GatherDims.mem_sKept _ _).mp h).2 (by decide))]
    unfold GatherDims.batchCoord
    rw [dif_pos (show (1 : Fin 3) ∈ gather_S8x64x64_S8x64x9x1_S8x64x9_n_2_01_01_2_3_111.operandBatchingDims from (by decide))]
    simp only [Nat.zero_add, Nat.add_zero]
    rfl
  | ⟨2, _⟩ =>
    show gather_S8x64x64_S8x64x9x1_S8x64x9_n_2_01_01_2_3_111.start (ix3 b g r) idx 2 + 0 + 0 = _
    unfold GatherDims.start
    rw [dif_pos (show (2 : Fin 3) ∈ gather_S8x64x64_S8x64x9x1_S8x64x9_n_2_01_01_2_3_111.startIndexMap from List.mem_singleton.mpr rfl)]
    have hsi : gather_S8x64x64_S8x64x9x1_S8x64x9_n_2_01_01_2_3_111.siIdx (ix3 b g r) ⟨List.idxOf (2 : Fin 3) gather_S8x64x64_S8x64x9x1_S8x64x9_n_2_01_01_2_3_111.startIndexMap,
        List.idxOf_lt_length_iff.2 (List.mem_singleton.mpr rfl)⟩ = ix4 b g r 0 := by
      funext b; refine Fin.ext ?_
      match b with
      | ⟨0, _⟩ => rfl
      | ⟨1, _⟩ => rfl
      | ⟨2, _⟩ => rfl
      | ⟨3, _⟩ => rfl
    rw [hsi]
    rfl

end Cert.ReferenceIdeal.Hand
-- ==== Proof.Order.lean ====
/-
  The positions of a row in falling order of value, ties by position: what the host's top-k gives, as a sequence.
-/
module

public import proofs.«01_k».proof.Proof.Rounds
public import Idealize.ShloMosaic.Lib.SortFacts

@[expose] public section

noncomputable section

namespace Cert.Rounds

open Idealize.ShloMosaic

/-- Position `x` stands before position `y` in the host's sort of `D`: its value is greater. -/
def above {N : ℕ} (D : Fin N → EReal) (x y : Fin N) : Bool :=
  FloatOps.cmpfTotal (F := Ideal) (φ := .f32) .gt (D x) (D y) == 1#1

/-- The sort's comparison is the order of the values. -/
theorem above_iff {N : ℕ} (D : Fin N → EReal) (x y : Fin N) : above D x y = true ↔ D y < D x := by
  show ((BitVec.ofBool (decide (D y < D x))) == 1#1) = true ↔ _
  by_cases h : D y < D x <;> simp [h]

/-- Greater value first, and equal values in the order of positions. -/
def Falls {N : ℕ} (D : Fin N → EReal) (a b : Fin N) : Prop := D b < D a ∨ D a = D b ∧ a < b

/-- Insertion keeps a list ordered by value and then by position. -/
theorem falls_insert {N : ℕ} (D : Fin N → EReal) (a : Fin N) (l : List (Fin N)) (ha : ∀ b ∈ l, a < b)
    (hl : l.Pairwise (Falls D)) : (insertBefore (above D) a l).Pairwise (Falls D) := by
  induction l with
  | nil => simp [insertBefore]
  | cons b l ih =>
    obtain ⟨hb, hl'⟩ := List.pairwise_cons.mp hl
    unfold insertBefore
    split
    · next h =>
      have h := (above_iff D b a).1 h
      refine List.pairwise_cons.mpr ⟨fun x hx => ?_, ih (fun x hx => ha x (List.mem_cons_of_mem _ hx)) hl'⟩
      rcases List.mem_cons.mp ((perm_insertBefore _ a l).mem_iff.mp hx) with rfl | hx
      · exact Or.inl h
      · exact hb x hx
    · next h =>
      have hle : D b ≤ D a := not_lt.1 fun h' => h ((above_iff D b a).2 h')
      refine List.pairwise_cons.mpr ⟨fun x hx => ?_, hl⟩
      have hx' : D x ≤ D a := by
        rcases List.mem_cons.mp hx with rfl | hx
        · exact hle
        · rcases hb x hx with h1 | h1
          · exact h1.le.trans hle
          · exact h1.1.ge.trans hle
      rcases hx'.lt_or_eq with h1 | h1
      · exact Or.inl h1
      · exact Or.inr ⟨h1.symm, ha x hx⟩

/-- The stable sort of an increasing list is ordered by value and then by position. -/
theorem falls_sort {N : ℕ} (D : Fin N → EReal) (l : List (Fin N)) (hl : l.Pairwise (· < ·)) :
    (stableSort (above D) l).Pairwise (Falls D) := by
  induction l with
  | nil => simp [stableSort]
  | cons a l ih =>
    obtain ⟨ha, hl'⟩ := List.pairwise_cons.mp hl
    unfold stableSort
    exact falls_insert D a _ (fun b hb => ha b ((perm_stableSort _ l).mem_iff.mp hb)) (ih hl')

/-- The position at place `k` of the falling order (position 0 beyond the row). -/
def order {N : ℕ} [NeZero N] (D : Fin N → EReal) (k : ℕ) : Fin N :=
  if h : k < N then sortedFrom (above D) ⟨k, h⟩ else 0

/-- The falling order lists the greatest values, ties by position. -/
theorem sel_order {N : ℕ} [NeZero N] (D : Fin N → EReal) {K : ℕ} (hK : K ≤ N) : Sel (fun n => -D n) K (order D) := by
  have hperm : (sortPositions N (above D)).Perm (List.finRange N) := perm_stableSort _ _
  have hnd : (sortPositions N (above D)).Nodup := hperm.nodup_iff.2 (List.nodup_finRange N)
  have hpw : (sortPositions N (above D)).Pairwise (Falls D) := falls_sort D _ (List.pairwise_lt_finRange N)
  have hlen := length_sortPositions N (above D)
  have hget : ∀ k (h : k < N), order D k = (sortPositions N (above D))[k]'(by rw [hlen]; exact h) := by
    intro k h
    unfold order
    rw [dif_pos h]
    rfl
  refine ⟨fun k hk j hj e => ?_, fun k hk n hn => ?_⟩
  · rw [hget k (by omega), hget j (by omega)] at e
    have := (hnd.getElem_inj_iff).1 e
    omega
  · obtain ⟨i, hi, e⟩ := List.getElem_of_mem (hperm.mem_iff.2 (List.mem_finRange n))
    have hi' : i < N := by rw [hlen] at hi; exact hi
    rw [← hget i hi'] at e
    rcases lt_trichotomy i k with h | rfl | h
    · exact absurd e (hn i h)
    · rw [e]; exact Or.inr ⟨rfl, le_rfl⟩
    · have := List.pairwise_iff_getElem.1 hpw k i (by rw [hlen]; omega) hi h
      rw [← hget k (by omega), ← hget i hi', e] at this
      rcases this with h1 | h1
      · exact Or.inl (EReal.neg_lt_neg_iff.2 h1)
      · exact Or.inr ⟨congrArg Neg.neg h1.1, h1.2.le⟩

/-- The host's top-k along the last of three axes gives the falling order's positions. -/
theorem topK_read {A B N K : ℕ} [NeZero N] (x : FVec Ideal ⟨3, ![A, B, N]⟩ .f32)
    (h : (⟨3, ![A, B, N]⟩ : Shape).Slices (fun _ => 0) ⟨3, ![A, B, K]⟩) (hK : K ≤ N) (a : Fin A) (b : Fin B) (k : Fin K) :
    (Host.topK ⟨3, ![A, B, K]⟩ 2 (FloatOps.cmpfTotal (F := Ideal) (φ := .f32) .gt) x h).2 (ix3 a b k) =
      BitVec.ofNat 32 (order (fun n => x (ix3 a b n)) k) := by
  have hk : (k : ℕ) < N := lt_of_lt_of_le k.2 hK
  unfold order
  rw [dif_pos hk]
  have hix : ∀ I : (⟨3, ![A, B, N]⟩ : Shape).Idx, I 0 = a → I 1 = b → ∀ r : Fin N,
      Shape.Idx.along I (2 : Fin 3) r = ix3 a b r := by
    intro I h0 h1 r
    funext c
    match c with
    | 0 => exact h0
    | 1 => exact h1
    | 2 => rfl
  refine congrArg (fun p : Fin N => BitVec.ofNat 32 p) (?_ : sortedFrom _ _ = _)
  congr 1
  · funext p q
    exact congrArg₂ (fun u v => FloatOps.cmpfTotal (F := Ideal) (φ := .f32) .gt u v == 1#1)
      (congrArg x (hix _ (Fin.ext (Nat.zero_add _)) (Fin.ext (Nat.zero_add _)) p))
      (congrArg x (hix _ (Fin.ext (Nat.zero_add _)) (Fin.ext (Nat.zero_add _)) q))
  · exact Fin.ext (Nat.zero_add _)

end Cert.Rounds
-- ==== Proof.Reference.lean ====
/-
  The reference's result, read at an index: the positions of the nine greatest overlaps among the 64 boxes nearest to each
  box, in order, ties by position.
-/
module

public import proofs.«01_k».proof.Proof.Gathers
public import proofs.«01_k».proof.Proof.Gen.ReferenceIdeal.Run
public import proofs.«01_k».proof.Proof.Order
public import proofs.«01_k».proof.Proof.Boxes

@[expose] public section

set_option maxRecDepth 16384

noncomputable section

namespace Cert.ReferenceIdeal.Hand

open Cert.ReferenceIdeal Cert.ReferenceIdeal.Gen Cert.ReferenceIdeal.Value Cert.Boxes Cert.Rounds
open Idealize.ShloMosaic

variable (V : Valuation τ sig (Elt Ideal)) (b : Fin 8) (g : Fin 64)

/-- Box `n` of batch `b` of the first argument. -/
def pbox (n : Fin 20000) : Fin 4 → EReal := fun k => (V (Proc.devRef .tc main_arg0) : Vec Ideal S8x20000x4 .f32) (ix3 b n k)
/-- Box `g` of batch `b` of the second argument. -/
def gbox : Fin 4 → EReal := fun k => (V (Proc.devRef .tc main_arg1) : Vec Ideal S8x64x4 .f32) (ix3 b g k)

/-! ## The nearest boxes -/

/-- The differences of the coordinates. -/
theorem v4_read (n : Fin 20000) (k : Fin 4) :
    (res_main_v4 V : Vec Ideal S8x64x20000x4 .f32) (ix4 b g n k) = gbox V b g k - pbox V b n k := by
  pointwise [res_main_v4]
  rfl

/-- The negated distances. -/
theorem v10_read (n : Fin 20000) : (res_main_v10 V : Vec Ideal S8x64x20000 .f32) (ix3 b g n) = -dist (gbox V b g) (pbox V b n) := by
  pointwise [res_main_v10, v4_read]
  rw [Fin.sum_univ_four]
  rfl

/-- The nearest boxes in order. -/
def near : ℕ → Fin 20000 := order fun n => -dist (gbox V b g) (pbox V b n)

/-- The nearest boxes are in the order of distance and then position. -/
theorem sel_near : Sel (fun n => dist (gbox V b g) (pbox V b n)) 64 (near V b g) := by
  have h := sel_order (fun n : Fin 20000 => -dist (gbox V b g) (pbox V b n)) (K := 64) (by norm_num)
  simp only [neg_neg] at h
  exact h

/-- The first sort's positions are the nearest boxes'. -/
theorem indices_read (j : Fin 64) : (res_main_indices V : Vec Ideal S8x64x64 .i32) (ix3 b g j) = BitVec.ofNat 32 (near V b g j) := by
  refine (topK_read (res_main_v10 V : Vec Ideal S8x64x20000 .f32) sliceFits_S8x64x20000_S8x64x64 (by norm_num) b g j).trans ?_
  unfold near
  simp only [v10_read]

/-- A word of a natural number below `2 ^ 31` is not negative. -/
theorem slt_zero {n : ℕ} (h : n < 2 ^ 31) : IntOp.cmpi .slt (BitVec.ofNat 32 n) 0#32 = 0#1 := by
  have : ¬ (BitVec.ofNat 32 n).toInt < (0#32).toInt := by rw [toInt_ofNat n h]; simp
  unfold IntOp.cmpi
  simp only [BitVec.slt, this, decide_false]
  rfl

/-- A word of a natural number lies between zero and a bound. -/
theorem inside {n m : ℕ} (h : n ≤ m) (hm : m < 2 ^ 31) :
    IntOp.andi (IntOp.cmpi .sge (BitVec.ofNat 32 n) 0#32) (IntOp.cmpi .sle (BitVec.ofNat 32 n) (BitVec.ofNat 32 m)) = 1#1 := by
  have h0 : (0#32).toInt ≤ (BitVec.ofNat 32 n).toInt := by rw [toInt_ofNat n (by omega)]; simp
  have h1 : (BitVec.ofNat 32 n).toInt ≤ (BitVec.ofNat 32 m).toInt := by
    rw [toInt_ofNat n (by omega), toInt_ofNat m hm]; exact_mod_cast h
  unfold IntOp.cmpi IntOp.andi
  simp only [BitVec.sle, h0, h1, decide_true]
  decide

/-- A word of a position, read signed and held inside the row, is the position. -/
theorem clamp {N : ℕ} {n : Fin N} {w : BitVec 32} (h : w = BitVec.ofNat 32 (n : ℕ)) (hN : N ≤ 2 ^ 31 := by norm_num) :
    (⟨min w.toInt.toNat (N - 1), by have := n.2; omega⟩ : Fin N) = n := by
  have := n.2
  apply Fin.ext
  simp only [h]
  rw [toInt_ofNat _ (by omega)]
  simp only [Int.toNat_natCast]
  omega

/-- An `and` over bits that are all one is one. -/
theorem fold_andi {ι : Type} (s : Finset ι) (f : ι → BitVec 1) (h : ∀ i, f i = 1#1) : s.fold IntOp.andi 1#1 f = 1#1 := by
  classical
  induction s using Finset.induction_on with
  | empty => rfl
  | insert a s ha ih => rw [Finset.fold_insert ha, ih, h]; decide

/-- The nearest positions, as the gather takes them. -/
theorem v12_read (j : Fin 64) : (res_main_v12 V : Vec Ideal S8x64x64x1 .i32) (ix4 b g j 0) = BitVec.ofNat 32 (near V b g j) := by
  pointwise [res_main_v12]
  exact indices_read V b g j

/-- The nearest positions after the gather's wrap of negative ones: unchanged. -/
theorem call0_read (j : Fin 64) : (res_main_call0_v4 V : Vec Ideal S8x64x64x1 .i32) (ix4 b g j 0) = BitVec.ofNat 32 (near V b g j) := by
  pointwise [res_main_call0_v4, v12_read]
  rw [slt_zero (by have := (near V b g j).2; omega)]
  rfl

/-- The gathered boxes are the nearest boxes. -/
theorem v13_read (j : Fin 64) (k : Fin 4) :
    (res_main_v13 V : Vec Ideal S8x64x64x4 .f32) (ix4 b g j k) = pbox V b (near V b g j) k := by
  have hall : ∀ x : S8x64x64x1.Idx, ∃ n : Fin 20000, (res_main_call0_v4 V : Vec Ideal S8x64x64x1 .i32) x = BitVec.ofNat 32 n := fun x => by
    idx_vars x
    obtain rfl : x3 = 0 := Subsingleton.elim _ _
    exact ⟨_, call0_read V x0 x1 x2⟩
  pointwise [res_main_v13, boxes_read]
  rw [fold_andi]
  · exact congrArg (fun i => (V (Proc.devRef .tc main_arg0) : Vec Ideal S8x20000x4 .f32) (ix3 b i k))
      (clamp (call0_read V b g j))
  · intro x
    obtain ⟨n, hn⟩ := hall x
    rw [hn]
    exact inside (n := n) (m := 19999) (by omega) (by norm_num)

/-! ## The overlaps with them -/

/-- The first coordinate of the nearest boxes. -/
theorem v41_read (j : Fin 64) : (res_main_v41 V : Vec Ideal S8x64x64 .f32) (ix3 b g j) = pbox V b (near V b g j) 0 := by
  pointwise [res_main_v41, v13_read]

/-- The first coordinate of the second argument's boxes. -/
theorem v15_read : (res_main_v15 V : Vec Ideal S8x64 .f32) (ix2 b g) = gbox V b g 0 := by
  pointwise [res_main_v15]
  rfl

/-- The second coordinate of the nearest boxes. -/
theorem v43_read (j : Fin 64) : (res_main_v43 V : Vec Ideal S8x64x64 .f32) (ix3 b g j) = pbox V b (near V b g j) 1 := by
  pointwise [res_main_v43, v13_read]

/-- The second coordinate of the second argument's boxes. -/
theorem v17_read : (res_main_v17 V : Vec Ideal S8x64 .f32) (ix2 b g) = gbox V b g 1 := by
  pointwise [res_main_v17]
  rfl

/-- The third coordinate of the nearest boxes. -/
theorem v45_read (j : Fin 64) : (res_main_v45 V : Vec Ideal S8x64x64 .f32) (ix3 b g j) = pbox V b (near V b g j) 2 := by
  pointwise [res_main_v45, v13_read]

/-- The third coordinate of the second argument's boxes. -/
theorem v19_read : (res_main_v19 V : Vec Ideal S8x64 .f32) (ix2 b g) = gbox V b g 2 := by
  pointwise [res_main_v19]
  rfl

/-- The fourth coordinate of the nearest boxes. -/
theorem v47_read (j : Fin 64) : (res_main_v47 V : Vec Ideal S8x64x64 .f32) (ix3 b g j) = pbox V b (near V b g j) 3 := by
  pointwise [res_main_v47, v13_read]

/-- The fourth coordinate of the second argument's boxes. -/
theorem v21_read : (res_main_v21 V : Vec Ideal S8x64 .f32) (ix2 b g) = gbox V b g 3 := by
  pointwise [res_main_v21]
  rfl

/-- A box's four ends. -/
def ends (a : Fin 4 → EReal) : Fin 4 → EReal := ![lo (a 0) (a 2), lo (a 1) (a 3), hi (a 0) (a 2), hi (a 1) (a 3)]

/-- The corners of the second argument's boxes. -/
theorem v39_read (k : Fin 4) : (res_main_v39 V : Vec Ideal S8x64x1x4 .f32) (ix4 b g 0 k) = ends (gbox V b g) k := by
  pointwise [res_main_v39, v15_read, v17_read, v19_read, v21_read]
  fin_cases k <;> rfl

/-- The corners of the nearest boxes. -/
theorem v64_read (j : Fin 64) (k : Fin 4) :
    (res_main_v64 V : Vec Ideal S8x64x64x4 .f32) (ix4 b g j k) = ends (pbox V b (near V b g j)) k := by
  pointwise [res_main_v64, v41_read, v43_read, v45_read, v47_read]
  fin_cases k <;> rfl

/-- The sides of the shared rectangles. -/
theorem v74_read (j : Fin 64) (k : Fin 2) :
    (res_main_v74 V : Vec Ideal S8x64x64x2 .f32) (ix4 b g j k) =
      max 0 (min (ends (gbox V b g) ⟨2 + k, by omega⟩) (ends (pbox V b (near V b g j)) ⟨2 + k, by omega⟩) -
        max (ends (gbox V b g) ⟨k, by omega⟩) (ends (pbox V b (near V b g j)) ⟨k, by omega⟩)) := by
  have e0 : (id (constant (F := Ideal) S_ .f32 0x00000000#32) : Vec Ideal S_ .f32) ix0 = (0 : EReal) := by
    show Ideal.ofBits .f32 0x00000000#32 = 0
    simp [Ideal.ofBits, Ideal.ieee]
  pointwise [res_main_v74, v39_read, v64_read]
  exact congrArg₂ (fun x y : EReal => max x y) e0 rfl

/-- The shared areas. -/
theorem v79_read (j : Fin 64) :
    (res_main_v79 V : Vec Ideal S8x64x64 .f32) (ix3 b g j) = shared (gbox V b g) (pbox V b (near V b g j)) := by
  pointwise [res_main_v79, v74_read]
  rfl

/-- The covered areas. -/
theorem v104_read (j : Fin 64) :
    (res_main_v104 V : Vec Ideal S8x64x64 .f32) (ix3 b g j) = covered (gbox V b g) (pbox V b (near V b g j)) := by
  pointwise [res_main_v104, v39_read, v64_read, v79_read]
  rfl

/-- The overlaps. -/
theorem v111_read (j : Fin 64) :
    (res_main_v111 V : Vec Ideal S8x64x64 .f32) (ix3 b g j) = overlap (gbox V b g) (pbox V b (near V b g j)) := by
  have e0 : (id (constant (F := Ideal) S_ .f32 0x00000000#32) : Vec Ideal S_ .f32) ix0 = (0 : EReal) := by
    show Ideal.ofBits .f32 0x00000000#32 = 0
    simp [Ideal.ofBits, Ideal.ieee]
  pointwise [res_main_v111, v79_read, v104_read]
  unfold overlap
  by_cases h : 0 < covered (gbox V b g) (pbox V b (near V b g j))
  · simp only [if_pos h]
  · simp only [if_neg h]
    exact e0

/-! ## The greatest of them -/

/-- The greatest overlaps in order, as places among the nearest boxes. -/
def best : ℕ → Fin 64 := order fun j : Fin 64 => overlap (gbox V b g) (pbox V b (near V b g j))

/-- The best of the nearest boxes are in the order of falling overlap and then place. -/
theorem sel_best : Sel (fun j : Fin 64 => -overlap (gbox V b g) (pbox V b (near V b g j))) 9 (best V b g) :=
  sel_order _ (by norm_num)

/-- The second sort's places are the best boxes'. -/
theorem places15_read (r : Fin 9) : (res_main_indices_15 V : Vec Ideal S8x64x9 .i32) (ix3 b g r) = BitVec.ofNat 32 (best V b g r) := by
  refine (topK_read (res_main_v111 V : Vec Ideal S8x64x64 .f32) sliceFits_S8x64x64_S8x64x9 (by norm_num) b g r).trans ?_
  unfold best
  simp only [v111_read]

/-- The best places after the gather's wrap of negative ones: unchanged. -/
theorem call4_read (r : Fin 9) : (res_main_call4_v5 V : Vec Ideal S8x64x9x1 .i32) (ix4 b g r 0) = BitVec.ofNat 32 (best V b g r) := by
  pointwise [res_main_call4_v5, places15_read]
  rw [slt_zero (by have := (best V b g r).2; omega)]
  rfl

/-- The reference's positions before they are laid out in one row. -/
def positions : Vec Ideal S8x64x9 .i32 :=
  select (Host.reduce IntOp.andi (andi (cmpi .sge (res_main_call4_v5 V) (broadcastInDim S8x64x9x1 ![] bcast_S_S8x64x9x1 (constantI S_ 32 0#32)))
      (cmpi .sle (res_main_call4_v5 V) (broadcastInDim S8x64x9x1 ![0, 1, 2, 3] bcast_S1x1x1x1_S8x64x9x1_0_1_2_3
        (broadcastInDim S1x1x1x1 ![3] bcast_S1_S1x1x1x1_3 (constantI S1 32 63#32))))) (constantI S_ 1 1#1) reducesTo_S8x64x9x1_S8x64x9_d3 h_S_)
    (Host.gather gather_S8x64x64_S8x64x9x1_S8x64x9_n_2_01_01_2_3_111 (res_main_indices V) (res_main_call4_v5 V))
    (broadcastInDim S8x64x9 ![] bcast_S_S8x64x9 (constantI S_ 32 2147483648#32))

/-- The reference's positions: the nearest boxes at the best places. -/
theorem positions_read (r : Fin 9) : positions V (ix3 b g r) = BitVec.ofNat 32 (near V b g (best V b g r)) := by
  have hall : ∀ x : S8x64x9x1.Idx, ∃ n : Fin 64, (res_main_call4_v5 V : Vec Ideal S8x64x9x1 .i32) x = BitVec.ofNat 32 n := fun x => by
    idx_vars x
    obtain rfl : x3 = 0 := Subsingleton.elim _ _
    exact ⟨_, call4_read V x0 x1 x2⟩
  pointwise [positions, places_read]
  rw [fold_andi]
  · refine Eq.trans ?_ (indices_read V b g (best V b g r))
    exact congrArg (fun i => (res_main_indices V : Vec Ideal S8x64x64 .i32) (ix3 b g i)) (clamp (call4_read V b g r))
  · intro x
    obtain ⟨n, hn⟩ := hall x
    rw [hn]
    exact inside (n := n) (m := 63) (by omega) (by norm_num)

end Cert.ReferenceIdeal.Hand
-- ==== Proof.Value.lean ====
/-
  The kernel's result array on boxes inside the unit square: the positions that the reference picks.
-/
module

public import proofs.«01_k».proof.Proof.Entry
public import proofs.«01_k».proof.Proof.Reference

@[expose] public section

set_option maxRecDepth 16384

noncomputable section

namespace Cert.KernelIdeal.Hand

open Cert.Boxes Cert.KernelIdeal Cert.KernelIdeal.Gen Cert.Rounds
open Idealize.ShloMosaic Idealize.ShloMosaic.TcCoe Idealize.SL.Sem

variable (m : (ℓ : Loc nD τ sig) → Buf (Elt Ideal) ℓ) (c : Dev nD)

/-- What the reference reads: contents of its arrays in which the two arguments are the kernel's. -/
structure Same (W : Valuation Cert.ReferenceIdeal.τ Cert.ReferenceIdeal.sig (Elt Ideal)) : Prop where
  first : (W (Proc.devRef .tc Cert.ReferenceIdeal.main_arg0) : Vec Ideal S8x20000x4 .f32) = preds m c
  second : (W (Proc.devRef .tc Cert.ReferenceIdeal.main_arg1) : Vec Ideal S8x64x4 .f32) = truths m c

variable {W : Valuation Cert.ReferenceIdeal.τ Cert.ReferenceIdeal.sig (Elt Ideal)}
variable (hW : Same m c W) (hp : ∀ i, 0 ≤ preds m c i ∧ preds m c i ≤ 1) (ht : ∀ i, 0 ≤ truths m c i ∧ truths m c i ≤ 1)
include hW hp ht

/-- What a step leaves in the result's block, on boxes inside the unit square: the reference's positions of its batch. -/
theorem step_read (t : Fin cfg0.N) (g : Fin 64) (r : Fin 9) :
    (outAt m c t : Vec Ideal S1x64x9 .i32) (ix3 0 g r) = Cert.ReferenceIdeal.Hand.positions W (ix3 (batch t) g r) := by
  have hg : ∀ g, gbox (iblk m c 1 t) g = Cert.ReferenceIdeal.Hand.gbox W (batch t) g := fun g =>
    (gbox_block m c t g).trans (funext fun k => (congrFun hW.second (ix3 (batch t) g k)).symm)
  have hb : ∀ n : Fin 20000, pbox (iblk m c 0 t) (Fin.castLE (by norm_num) n) = Cert.ReferenceIdeal.Hand.pbox W (batch t) n := fun n =>
    (pbox_block m c t n).trans (funext fun k => (congrFun hW.first (ix3 (batch t) n k)).symm)
  have ug : Unit (gbox (iblk m c 1 t) g) := by
    rw [gbox_block]; exact fun k => ht _
  have up : ∀ n : Fin 20000, Unit (pbox (iblk m c 0 t) (Fin.castLE (by norm_num) n)) := fun n => by
    rw [pbox_block]; exact fun k => hp _
  have hd : ∀ n, k0_pay33 (iblk m c 0 t) (iblk m c 1 t) (ix2 g n) < ⊤ := fun n => by
    rw [dist_read]
    rcases Nat.lt_or_ge n.1 20000 with h | h
    · exact (dist_lt_far ug (up ⟨n.1, h⟩)).1.trans (dist_lt_far ug (up ⟨n.1, h⟩)).2
    · rw [pbox_far m c t n h]
      exact (dist_lt_far ug ug).2
  have hs := (Cert.ReferenceIdeal.Hand.sel_near W (batch t) g).extend (M := 20096) (by norm_num)
    (e := fun n => k0_pay33 (iblk m c 0 t) (iblk m c 1 t) (ix2 g n)) (f := dist (gbox (iblk m c 1 t) g) far)
    (fun n => by rw [dist_read, hg, hb])
    (fun n => by rw [← hg, ← hb]; exact (dist_lt_far ug (up n)).1)
    (fun n h => by rw [dist_read, pbox_far m c t n h])
  have hn : ∀ g n, 0 ≤ k0_pay46 (inter (iblk m c 0 t) (iblk m c 1 t)) (union (iblk m c 0 t) (iblk m c 1 t))
      (unionPos (iblk m c 0 t) (iblk m c 1 t)) (ix2 g n) := fun g n => by
    rw [overlap_read]; exact overlap_nonneg _ _
  have hb' := Cert.ReferenceIdeal.Hand.sel_best W (batch t) g
  rw [Cert.ReferenceIdeal.Hand.positions_read]
  unfold outAt bodyOut
  refine nine_read _ _ _ _ hn g hd hs (π := Cert.ReferenceIdeal.Hand.best W (batch t) g) ?_ r
  simpa only [overlap_read, hg, hb] using hb'

/-- The result array after the run, on boxes inside the unit square. -/
theorem final : (dats m 0 c).arrAt 2 cfg0.N = Cert.ReferenceIdeal.Hand.positions W := by
  refine (dats m 0 c).arrAt_eq_of_covers 2 _ (by decide +kernel) fun t hf y => ?_
  blk_simp
  rw [after0_2]
  change S1x64x9.Idx at y
  idx_vars y
  obtain rfl : y0 = 0 := Subsingleton.elim _ _
  refine (step_read m c hW hp ht t y1 y2).trans (congrArg (Cert.ReferenceIdeal.Hand.positions W) ?_)
  unfold batch
  blk_ext [idx t]

omit hW hp ht

/-! ## The two results -/

/-- The second result: the row's number at each of its nine places. -/
def rows : Vec Ideal S8x576 .i32 :=
  shapeCast _ (broadcastInDim S8x64x9 ![0, 1, 2] bcast_S1x64x1_S8x64x9_0_1_2
    (broadcastInDim S1x64x1 ![1] bcast_S64_S1x64x1_1 (iotaInDim S64 32 0))) shapeCasts_S8x64x9_S8x576

/-- The first result is the kernel's result array with its last two axes made one. -/
theorem tail_first : Pipeline.afterTail₀ cfgs (dats m) 0 (V0 m) [hostOps1] c main_v3
    = (shapeCast S8x576 ((dats m 0 c).arrAt 2 cfg0.N : Vec Ideal S8x64x9 .i32) shapeCasts_S8x64x9_S8x576 : Vec Ideal S8x576 .i32) := by
  unfold Pipeline.afterTail₀
  have e := Pipeline.withArrays_arr spec0 (by decide) c (V0 m c) (fun w => (dats m 0 c).arrAt w cfg0.N) 2
  simp only [hostOps1, List.flatten_cons, List.flatten_nil, List.append_nil]
  entry_read
  exact congrArg (fun x : Vec Ideal S8x64x9 .i32 => (shapeCast S8x576 x shapeCasts_S8x64x9_S8x576 : Vec Ideal S8x576 .i32)) e

/-- The second result is the rows' numbers. -/
theorem tail_second : Pipeline.afterTail₀ cfgs (dats m) 0 (V0 m) [hostOps1] c main_v7 = rows := by
  unfold Pipeline.afterTail₀
  simp only [hostOps1, List.flatten_cons, List.flatten_nil, List.append_nil]
  entry_read
  rfl

/-- The run on boxes inside the unit square: the results are the reference's positions and the rows' numbers, the
    arguments unchanged. -/
theorem run_results (ρ : Dev nD → PrngReg) (W : Dev nD → Valuation Cert.ReferenceIdeal.τ Cert.ReferenceIdeal.sig (Elt Ideal))
    (hW : ∀ c, Same m c (W c)) (hp : ∀ c i, 0 ≤ preds m c i ∧ preds m c i ≤ 1) (ht : ∀ c i, 0 ≤ truths m c i ∧ truths m c i ≤ 1) :
    θ_run defs (onTc (τ := τ) (main (F := Ideal))) ⟨m, fun _ => 0, ρ⟩ fun r => ∀ c : Dev nD,
      r.2.mem ((c.tc : Thread nD τ).loc main_v3)
        = (shapeCast S8x576 (Cert.ReferenceIdeal.Hand.positions (W c)) shapeCasts_S8x64x9_S8x576 : Vec Ideal S8x576 .i32)
      ∧ r.2.mem ((c.tc : Thread nD τ).loc main_v7) = rows
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h.1 c).2 main_v3 (Pipeline.mem_restRefs_of main_v3 (by decide) (by decide))).trans ((tail_first m c).trans
        (congrArg (fun x : Vec Ideal S8x64x9 .i32 => (shapeCast S8x576 x shapeCasts_S8x64x9_S8x576 : Vec Ideal S8x576 .i32))
          (final m c (hW c) (hp c) (ht c)))),
      ((h.1 c).2 main_v7 (Pipeline.mem_restRefs_of main_v7 (by decide) (by decide))).trans (tail_second m c),
      ((h.1 c).2 main_arg0 (Pipeline.mem_restRefs_of main_arg0 (by decide) (by decide))).trans (W_main_arg0 m (dats m) c),
      ((h.1 c).1 1).trans (((dats m 0 c).arrAt_in 1 rfl _).trans ((A_eq m c 1).trans (V_main_arg1 m c)))⟩) (run_main m ρ)

end Cert.KernelIdeal.Hand

end
-- ==== Proof.lean ====
/-
  The claim: the three programs end with their arguments unchanged and every counter at zero, and on boxes inside the
  unit square the kernel's two results are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_unit_boxes
public import proofs.«01_k».proof.Proof.Run
public import proofs.«01_k».proof.Proof.Value
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The two kernel programs have one body table at the bit patterns of floats. -/
theorem defs₀_eq : (Cert.Kernel.defs₀ (F := Bits)) = Cert.KernelIdeal.defs₀ (F := Bits) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

/-- So they have one table of definitions. -/
theorem defs_eq : (Cert.Kernel.defs (F := Bits)) = Cert.KernelIdeal.defs (F := Bits) := by
  unfold Cert.Kernel.defs Cert.KernelIdeal.defs
  rw [defs₀_eq]; rfl

/-- The kernel ends, its arguments unchanged, every counter at zero: the general run read at the bit patterns of floats. -/
theorem frame_kernel : Cert.quiescent_Kernel := by
  intro m ρ _
  have h := Cert.KernelIdeal.Hand.frame (F := Bits) m ρ
  rw [← defs_eq] at h
  exact h

/-- The idealized kernel ends, its arguments unchanged, every counter at zero. -/
theorem frame_ideal : Cert.quiescent_KernelIdeal := fun m ρ _ => Cert.KernelIdeal.Hand.frame m ρ

/-- The reference ends, its arguments unchanged, every counter at zero. -/
theorem frame_reference : Cert.quiescent_ReferenceIdeal := fun m ρ _ =>
  (θ_run _ _ _).mono (fun _ h => ⟨fun c => (h c).2.2, sem_eq_zero_of_no_sems rfl _⟩) (Cert.ReferenceIdeal.Value.run m ρ)

/-- On boxes inside the unit square the kernel's two results are the reference's. -/
theorem algebraic : Cert.algebraic_KernelIdeal_ReferenceIdeal_pre_unit_boxes := by
  intro m g m' g' hpre hargs
  refine ⟨_, _, Cert.KernelIdeal.Hand.run_results m g (fun c => StableHlo.launchContents m' c) (fun c => ⟨(hargs c).1, (hargs c).2⟩)
    (fun c => (Cert.KernelIdeal.Hand.unit_of_pre _ _ (hpre c)).1) (fun c => (Cert.KernelIdeal.Hand.unit_of_pre _ _ (hpre c)).2), ?_⟩
  exact (θ_run _ _ _).mono (fun _ h c => h c) (Cert.ReferenceIdeal.Value.run m' g')

/-- All the claims. -/
theorem claim : Cert.Claim := ⟨Cert.Kernel.Gen.facts, Cert.KernelIdeal.Gen.facts, Cert.ReferenceIdeal.Gen.facts, Cert.Pre_unit_boxes.Gen.facts,
  frame_kernel, frame_ideal, fun m ρ _ => frame_ideal m ρ trivial, frame_reference, fun m ρ _ => frame_reference m ρ trivial, trivial, algebraic⟩

end Cert.Proof

end
